-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x32x32 : Shape := ⟨4, ![8, 256, 32, 32]⟩
abbrev S1024x256 : Shape := ⟨2, ![1024, 256]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8x256x32x32 .f32) (main_arg1 : FVec F S1024x256 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S256x1024 : Shape := ⟨2, ![256, 1024]⟩
abbrev S1024 : Shape := ⟨1, ![1024]⟩
abbrev S1x1024 : Shape := ⟨2, ![1, 1024]⟩
abbrev S4x1x2048 : Shape := ⟨3, ![4, 1, 2048]⟩
abbrev S4x1x128 : Shape := ⟨3, ![4, 1, 128]⟩
abbrev S2048x256 : Shape := ⟨2, ![2048, 256]⟩
abbrev S1x1x2048 : Shape := ⟨3, ![1, 1, 2048]⟩
abbrev S1x1x128 : Shape := ⟨3, ![1, 1, 128]⟩
abbrev S2048 : Shape := ⟨1, ![2048]⟩
abbrev S2048x1 : Shape := ⟨2, ![2048, 1]⟩
abbrev S2048x512 : Shape := ⟨2, ![2048, 512]⟩
abbrev S256x512 : Shape := ⟨2, ![256, 512]⟩
abbrev S1x512 : Shape := ⟨2, ![1, 512]⟩
abbrev S2048x1024 : Shape := ⟨2, ![2048, 1024]⟩
abbrev S1x2048x1 : Shape := ⟨3, ![1, 2048, 1]⟩
abbrev S1 : Shape := ⟨1, ![1]⟩
abbrev S1x1x1 : Shape := ⟨3, ![1, 1, 1]⟩
abbrev S1x1 : Shape := ⟨2, ![1, 1]⟩
abbrev S4x1x1 : Shape := ⟨3, ![4, 1, 1]⟩
abbrev S4 : Shape := ⟨1, ![4]⟩
abbrev S8x32x32 : Shape := ⟨3, ![8, 32, 32]⟩

abbrev nBuf : Space → Nat
  | .hbm => 27
  | .vmem => 11
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1024x256, .bf16⟩
  | .hbm, ⟨13, _⟩ => ⟨S8192x256, .f32⟩
  | .hbm, ⟨14, _⟩ => ⟨S4x1x2048, .i32⟩
  | .hbm, ⟨15, _⟩ => ⟨S4x1x128, .f32⟩
  | .hbm, ⟨16, _⟩ => ⟨S8x32x32x256, .f32⟩
  | .hbm, ⟨17, _⟩ => ⟨S8x256x32x32, .f32⟩
  | .hbm, ⟨18, _⟩ => ⟨S4x1x1, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x32x32, .i32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S1024x256, .bf16⟩
  | .local _ .vmem, ⟨4, _⟩ => ⟨S1x1024, .f32⟩
  | .local _ .vmem, ⟨5, _⟩ => ⟨S2048x256, .f32⟩
  | .local _ .vmem, ⟨6, _⟩ => ⟨S2048x256, .f32⟩
  | .local _ .vmem, ⟨7, _⟩ => ⟨S1x1x2048, .i32⟩
  | .local _ .vmem, ⟨8, _⟩ => ⟨S1x1x2048, .i32⟩
  | .local _ .vmem, ⟨9, _⟩ => ⟨S1x1x128, .f32⟩
  | .local _ .vmem, ⟨10, _⟩ => ⟨S1x1x128, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩
abbrev S8x32x32 : Shape := ⟨3, ![8, 32, 32]⟩

abbrev nBuf : Space → Nat
  | .hbm => 73
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S256x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .i32⟩
  | .hbm, ⟨26, _⟩ => ⟨S_, .f32⟩
  | .hbm, ⟨27, _⟩ => ⟨S_, .i32⟩
  | .hbm, ⟨28, _⟩ => ⟨S8192, .f32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S8192x256, .f32⟩
  | .hbm, ⟨49, _⟩ => ⟨S8192x256, .i1⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x256, .f32⟩
  | .hbm, ⟨60, _⟩ => ⟨S8192x256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192x256, .f32⟩
  | .hbm, ⟨69, _⟩ => ⟨S8192x256, .f32⟩
  | .hbm, ⟨70, _⟩ => ⟨S8x32x32x256, .f32⟩
  | .hbm, ⟨71, _⟩ => ⟨S8x256x32x32, .f32⟩
  | .hbm, ⟨72, _⟩ => ⟨S8x32x32, .i32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Proof.RefRun.lean ====
module

public import proofs.«01_k».proof.Proof.Gen.ReferenceIdeal
public import Idealize.ShloMosaic.Lib.StableHlo.Run
public import Idealize.ShloMosaic.Lib.Quiescent

/-!
# The run of the reference

The reference is a straight line of host operations and two calls.  The line is cut into four lists: the table of
distances, the search for the nearest row, the reading of the codebook, and the results.  Each list is read once, over
arbitrary contents of the buffers, as a named function of the arrays it reads; the run of the whole is the composition.
-/

@[expose] public section

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

/-! ## What each list computes -/

/-- The pixels of `z` as rows: channels last, one row per batch and pixel. -/
def flat (z : FVec F S8x256x32x32 .f32) : FVec F S8192x256 .f32 :=
  shapeCast S8192x256 (transpose S8x32x32x256 [0, 2, 3, 1] z transposes_S8x256x32x32_S8x32x32x256_0_2_3_1)
    shapeCasts_S8x32x32x256_S8192x256

/-- The distance of every row of `x` to every row of the codebook `e`, by the expanded square. -/
def dist (x : FVec F S8192x256 .f32) (e : FVec F S1024x256 .f32) : FVec F S8192x1024 .f32 :=
  Host.sqrt (maximumf
    (subf
      (addf
        (broadcastInDim S8192x1024 ![0, 1] bcast_S8192x1_S8192x1024_0_1
          (broadcastInDim S8192x1 ![0] bcast_S8192_S8192x1_0
            (Host.reduceAdd (mulf x x) (constant S_ .f32 0x00000000#32) reducesTo_S8192x256_S8192_d1 h_S_)))
        (broadcastInDim S8192x1024 ![0, 1] bcast_S1x1024_S8192x1024_0_1
          (broadcastInDim S1x1024 ![1] bcast_S1024_S1x1024_1
            (Host.reduceAdd (mulf e e) (constant S_ .f32 0x00000000#32) reducesTo_S1024x256_S1024_d1 h_S_))))
      (mulf (broadcastInDim S8192x1024 ![] bcast_S_S8192x1024 (constant S_ .f32 0x40000000#32))
        (Host.dotGeneral dot_S8192x256_S256x1024_S8192x1024_1_0_0_1_n_n none x
          (transpose S256x1024 [1, 0] e transposes_S1024x256_S256x1024_1_0))))
    (broadcastInDim S8192x1024 ![] bcast_S_S8192x1024 (constant S_ .f32 0x00000000#32)))

/-- Row by row, the column of the smallest entry of `d`. -/
def near (d : FVec F S8192x1024 .f32) : IVec S8192 32 := fun j =>
  (Host.argReduce reducer_argmin_f32_i32 d (iotaInDim S8192x1024 32 1) (constant S_ .f32 0x7F800000#32)
    (constantI S_ 32 0#32) reducesTo_S8192x1024_S8192_d1 h_S_ j).2

/-- The index as the reading of the codebook uses it: a negative one counts from the end; one column. -/
def wrapped (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether the index of each row lies in the codebook. -/
def inside (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The rows of the codebook `e` at the indices `i`. -/
def taken (e : FVec F S1024x256 .f32) (i : IVec S8192 32) : FVec F S8192x256 .f32 :=
  select (broadcastInDim S8192x256 ![0] bcast_S8192_S8192x256_0 (inside (wrapped i)))
    (Host.gather gather_S1024x256_S8192x1_S8192x256_1_0_n_n_0_1_1256 e (wrapped i))
    (broadcastInDim S8192x256 ![] bcast_S_S8192x256 (constant S_ .f32 0x7FC00000#32))

/-- The mean of the squares of the differences of two tables of rows. -/
def meanSq (x q : FVec F S8192x256 .f32) : FVec F S_ .f32 :=
  Host.divf (Host.reduceAdd (mulf (subf x q) (subf x q)) (constant S_ .f32 0x00000000#32) reducesTo_S8192x256_S_d0_1 h_S_)
    (constant S_ .f32 0x4A000000#32)

/-- The loss: the mean square plus a quarter of the mean square. -/
def loss (x q : FVec F S8192x256 .f32) : FVec F S_ .f32 :=
  addf (meanSq x q) (mulf (constant S_ .f32 0x3E800000#32) (meanSq x q))

/-- The quantized rows, as `x` plus the difference, in the layout of `z`. -/
def quant (x q : FVec F S8192x256 .f32) : FVec F S8x256x32x32 .f32 :=
  transpose S8x256x32x32 [0, 3, 1, 2] (shapeCast S8x32x32x256 (addf x (subf q x)) shapeCasts_S8192x256_S8x32x32x256)
    transposes_S8x32x32x256_S8x256x32x32_0_3_1_2

/-- The indices in the grid of `z`. -/
def grid (i : IVec S8192 32) : IVec S8x32x32 32 :=
  shapeCast S8x32x32 i shapeCasts_S8192_S8x32x32

/-! ## The operations -/

/-- The operations up to the table of distances: the flat rows of `z`, then the root of the expanded square. -/
abbrev distOps : List (HloOp τ sig (Elt F)) :=
  [ unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    reshape main_v0 main_v1 (rfl : (.f32 : EltTy) = .f32) shapeCasts_S8x32x32x256_S8192x256,
    binary main_v1 main_v1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S8192x1024 ![0, 1] bcast_S8192x1_S8192x1024_0_1 : (⟨S8192x1, .f32⟩ : BufTy).Contents (Elt F) → (⟨S8192x1024, .f32⟩ : BufTy).Contents (Elt F)),
    unary main_v7 main_v9 (broadcastInDim S8192x1024 ![0, 1] bcast_S1x1024_S8192x1024_0_1 : (⟨S1x1024, .f32⟩ : BufTy).Contents (Elt F) → (⟨S8192x1024, .f32⟩ : BufTy).Contents (Elt F)),
    binary main_v8 main_v9 main_v10 (addf : (⟨S8192x1024, .f32⟩ : BufTy).Contents (Elt F) → (⟨S8192x1024, .f32⟩ : BufTy).Contents (Elt F) → (⟨S8192x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    nullary main_cst_1 (constant S_ .f32 0x40000000#32),
    unary main_cst_1 main_v13 (broadcastInDim S8192x1024 ![] bcast_S_S8192x1024 : (⟨S_, .f32⟩ : BufTy).Contents (Elt F) → (⟨S8192x1024, .f32⟩ : BufTy).Contents (Elt F)),
    binary main_v13 main_v12 main_v14 (mulf : (⟨S8192x1024, .f32⟩ : BufTy).Contents (Elt F) → (⟨S8192x1024, .f32⟩ : BufTy).Contents (Elt F) → (⟨S8192x1024, .f32⟩ : BufTy).Contents (Elt F)),
    binary main_v10 main_v14 main_v15 (subf : (⟨S8192x1024, .f32⟩ : BufTy).Contents (Elt F) → (⟨S8192x1024, .f32⟩ : BufTy).Contents (Elt F) → (⟨S8192x1024, .f32⟩ : BufTy).Contents (Elt F)),
    nullary main_cst_2 (constant S_ .f32 0x00000000#32),
    unary main_cst_2 main_v16 (broadcastInDim S8192x1024 ![] bcast_S_S8192x1024 : (⟨S_, .f32⟩ : BufTy).Contents (Elt F) → (⟨S8192x1024, .f32⟩ : BufTy).Contents (Elt F)),
    binary main_v15 main_v16 main_v17 (maximumf : (⟨S8192x1024, .f32⟩ : BufTy).Contents (Elt F) → (⟨S8192x1024, .f32⟩ : BufTy).Contents (Elt F) → (⟨S8192x1024, .f32⟩ : BufTy).Contents (Elt F)),
    unary main_v17 main_v18 (Host.sqrt : (⟨S8192x1024, .f32⟩ : BufTy).Contents (Elt F) → (⟨S8192x1024, .f32⟩ : BufTy).Contents (Elt F)) ]

/-- The call that finds, row by row, the first index of the smallest distance. -/
abbrev nearOps : List (HloOp τ sig (Elt F)) :=
  [ nullary main_call0_v0 (iotaInDim S8192x1024 32 1 : (⟨S8192x1024, .i32⟩ : BufTy).Contents (Elt F)),
    nullary main_call0_cst (constant S_ .f32 0x7F800000#32 : (⟨S_, .f32⟩ : BufTy).Contents (Elt F)),
    nullary main_call0_c (constantI S_ 32 0#32 : (⟨S_, .i32⟩ : BufTy).Contents (Elt F)),
    quaternary main_v18 main_call0_v0 main_call0_cst main_call0_c main_call0_v1_0 ((fun x y u v j => (Host.argReduce reducer_argmin_f32_i32 x y u v reducesTo_S8192x1024_S8192_d1 h_S_ j).1) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .f32⟩ : BufTy).Contents (Elt F)),
    quaternary main_v18 main_call0_v0 main_call0_cst main_call0_c main_v19 ((fun x y u v j => (Host.argReduce reducer_argmin_f32_i32 x y u v reducesTo_S8192x1024_S8192_d1 h_S_ j).2) : (⟨S8192x1024, .f32⟩ : BufTy).Contents (Elt F) → (⟨S8192x1024, .i32⟩ : BufTy).Contents (Elt F) → (⟨S_, .f32⟩ : BufTy).Contents (Elt F) → (⟨S_, .i32⟩ : BufTy).Contents (Elt F) → (⟨S8192, .i32⟩ : BufTy).Contents (Elt F)) ]

/-- The call that takes the codebook row at each found index. -/
abbrev takeOps : List (HloOp τ sig (Elt F)) :=
  [ nullary main_call1_c (constantI S_ 32 0#32 : (⟨S_, .i32⟩ : BufTy).Contents (Elt F)),
    unary main_call1_c main_call1_v0 (broadcastInDim S8192 ![] bcast_S_S8192 : (⟨S_, .i32⟩ : BufTy).Contents (Elt F) → (⟨S8192, .i32⟩ : BufTy).Contents (Elt F)),
    binary main_v19 main_call1_v0 main_call1_v1 (cmpi .slt : (⟨S8192, .i32⟩ : BufTy).Contents (Elt F) → (⟨S8192, .i32⟩ : BufTy).Contents (Elt F) → (⟨S8192, .i1⟩ : BufTy).Contents (Elt F)),
    nullary main_call1_c_0 (constantI S_ 32 1024#32 : (⟨S_, .i32⟩ : BufTy).Contents (Elt F)),
    unary main_call1_c_0 main_call1_v2 (broadcastInDim S8192 ![] bcast_S_S8192 : (⟨S_, .i32⟩ : BufTy).Contents (Elt F) → (⟨S8192, .i32⟩ : BufTy).Contents (Elt F)),
    binary main_v19 main_call1_v2 main_call1_v3 (addi : (⟨S8192, .i32⟩ : BufTy).Contents (Elt F) → (⟨S8192, .i32⟩ : BufTy).Contents (Elt F) → (⟨S8192, .i32⟩ : BufTy).Contents (Elt F)),
    ternary main_call1_v1 main_call1_v3 main_v19 main_call1_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_call1_v4 main_call1_v5 (broadcastInDim S8192x1 ![0] bcast_S8192_S8192x1_0 : (⟨S8192, .i32⟩ : BufTy).Contents (Elt F) → (⟨S8192x1, .i32⟩ : BufTy).Contents (Elt F)),
    nullary main_call1_c_1 (constantI S1 32 1023#32 : (⟨S1, .i32⟩ : BufTy).Contents (Elt F)),
    nullary main_call1_c_2 (constantI S_ 32 0#32 : (⟨S_, .i32⟩ : BufTy).Contents (Elt F)),
    unary main_call1_c_2 main_call1_v6 (broadcastInDim S8192x1 ![] bcast_S_S8192x1 : (⟨S_, .i32⟩ : BufTy).Contents (Elt F) → (⟨S8192x1, .i32⟩ : BufTy).Contents (Elt F)),
    binary main_call1_v5 main_call1_v6 main_call1_v7 (cmpi .sge : (⟨S8192x1, .i32⟩ : BufTy).Contents (Elt F) → (⟨S8192x1, .i32⟩ : BufTy).Contents (Elt F) → (⟨S8192x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S8192x1 ![0, 1] bcast_S1x1_S8192x1_0_1 : (⟨S1x1, .i32⟩ : BufTy).Contents (Elt F) → (⟨S8192x1, .i32⟩ : BufTy).Contents (Elt F)),
    binary main_call1_v5 main_call1_v9 main_call1_v10 (cmpi .sle : (⟨S8192x1, .i32⟩ : BufTy).Contents (Elt F) → (⟨S8192x1, .i32⟩ : BufTy).Contents (Elt F) → (⟨S8192x1, .i1⟩ : BufTy).Contents (Elt F)),
    binary main_call1_v7 main_call1_v10 main_call1_v11 (andi : (⟨S8192x1, .i1⟩ : BufTy).Contents (Elt F) → (⟨S8192x1, .i1⟩ : BufTy).Contents (Elt F) → (⟨S8192x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S8192x1_S8192_d1 h_S_) : (⟨S8192x1, .i1⟩ : BufTy).Contents (Elt F) → (⟨S_, .i1⟩ : BufTy).Contents (Elt F) → (⟨S8192, .i1⟩ : BufTy).Contents (Elt F)),
    binary main_arg1 main_call1_v5 main_call1_v13 ((fun x i => Host.gather gather_S1024x256_S8192x1_S8192x256_1_0_n_n_0_1_1256 x i) : (⟨S1024x256, .f32⟩ : BufTy).Contents (Elt F) → (⟨S8192x1, .i32⟩ : BufTy).Contents (Elt F) → (⟨S8192x256, .f32⟩ : BufTy).Contents (Elt F)),
    unary main_call1_v12 main_call1_v14 (broadcastInDim S8192x256 ![0] bcast_S8192_S8192x256_0 : (⟨S8192, .i1⟩ : BufTy).Contents (Elt F) → (⟨S8192x256, .i1⟩ : BufTy).Contents (Elt F)),
    nullary main_call1_cst (constant S_ .f32 0x7FC00000#32 : (⟨S_, .f32⟩ : BufTy).Contents (Elt F)),
    unary main_call1_cst main_call1_v15 (broadcastInDim S8192x256 ![] bcast_S_S8192x256 : (⟨S_, .f32⟩ : BufTy).Contents (Elt F) → (⟨S8192x256, .f32⟩ : BufTy).Contents (Elt F)),
    ternary main_call1_v14 main_call1_v13 main_call1_v15 main_v20 (select : (⟨S8192x256, .i1⟩ : BufTy).Contents (Elt F) → (⟨S8192x256, .f32⟩ : BufTy).Contents (Elt F) → (⟨S8192x256, .f32⟩ : BufTy).Contents (Elt F) → (⟨S8192x256, .f32⟩ : BufTy).Contents (Elt F)) ]

/-- The operations after the calls: the loss, the quantized rows in the layout of `z`, the indices in the grid of `z`. -/
abbrev outOps : List (HloOp τ sig (Elt F)) :=
  [ binary main_v1 main_v20 main_v21 (subf : (⟨S8192x256, .f32⟩ : BufTy).Contents (Elt F) → (⟨S8192x256, .f32⟩ : BufTy).Contents (Elt F) → (⟨S8192x256, .f32⟩ : BufTy).Contents (Elt F)),
    binary main_v21 main_v21 main_v22 (mulf : (⟨S8192x256, .f32⟩ : BufTy).Contents (Elt F) → (⟨S8192x256, .f32⟩ : BufTy).Contents (Elt F) → (⟨S8192x256, .f32⟩ : BufTy).Contents (Elt F)),
    nullary main_cst_3 (constant S_ .f32 0x00000000#32),
    binary main_v22 main_cst_3 main_v23 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_4 (constant S_ .f32 0x4A000000#32),
    binary main_v23 main_cst_4 main_v24 (Host.divf : (⟨S_, .f32⟩ : BufTy).Contents (Elt F) → (⟨S_, .f32⟩ : BufTy).Contents (Elt F) → (⟨S_, .f32⟩ : BufTy).Contents (Elt F)),
    binary main_v1 main_v20 main_v25 (subf : (⟨S8192x256, .f32⟩ : BufTy).Contents (Elt F) → (⟨S8192x256, .f32⟩ : BufTy).Contents (Elt F) → (⟨S8192x256, .f32⟩ : BufTy).Contents (Elt F)),
    binary main_v25 main_v25 main_v26 (mulf : (⟨S8192x256, .f32⟩ : BufTy).Contents (Elt F) → (⟨S8192x256, .f32⟩ : BufTy).Contents (Elt F) → (⟨S8192x256, .f32⟩ : BufTy).Contents (Elt F)),
    nullary main_cst_5 (constant S_ .f32 0x00000000#32),
    binary main_v26 main_cst_5 main_v27 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_6 (constant S_ .f32 0x4A000000#32),
    binary main_v27 main_cst_6 main_v28 (Host.divf : (⟨S_, .f32⟩ : BufTy).Contents (Elt F) → (⟨S_, .f32⟩ : BufTy).Contents (Elt F) → (⟨S_, .f32⟩ : BufTy).Contents (Elt F)),
    nullary main_cst_7 (constant S_ .f32 0x3E800000#32),
    binary main_cst_7 main_v28 main_v29 (mulf : (⟨S_, .f32⟩ : BufTy).Contents (Elt F) → (⟨S_, .f32⟩ : BufTy).Contents (Elt F) → (⟨S_, .f32⟩ : BufTy).Contents (Elt F)),
    binary main_v24 main_v29 main_v30 (addf : (⟨S_, .f32⟩ : BufTy).Contents (Elt F) → (⟨S_, .f32⟩ : BufTy).Contents (Elt F) → (⟨S_, .f32⟩ : BufTy).Contents (Elt F)),
    binary main_v20 main_v1 main_v31 (subf : (⟨S8192x256, .f32⟩ : BufTy).Contents (Elt F) → (⟨S8192x256, .f32⟩ : BufTy).Contents (Elt F) → (⟨S8192x256, .f32⟩ : BufTy).Contents (Elt F)),
    binary main_v1 main_v31 main_v32 (addf : (⟨S8192x256, .f32⟩ : BufTy).Contents (Elt F) → (⟨S8192x256, .f32⟩ : BufTy).Contents (Elt F) → (⟨S8192x256, .f32⟩ : BufTy).Contents (Elt F)),
    reshape main_v32 main_v33 (rfl : (.f32 : EltTy) = .f32) shapeCasts_S8192x256_S8x32x32x256,
    unary main_v33 main_v34 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    reshape main_v19 main_v35 (rfl : (.i32 : EltTy) = .i32) shapeCasts_S8192_S8x32x32 ]

/-- The whole line. -/
abbrev ops : List (HloOp τ sig (Elt F)) := distOps ++ (nearOps ++ (takeOps ++ outOps))

set_option maxRecDepth 16384 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem distOps_sub : (distOps (F := F)).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

theorem nearOps_sub : (nearOps (F := F)).Forall fun op => op.bufs ⊆ tcRefs τ sig :=
  ⟨nullary_bufs_sub .., nullary_bufs_sub .., nullary_bufs_sub .., quaternary_bufs_sub .., quaternary_bufs_sub ..⟩

theorem takeOps_sub : (takeOps (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem outOps_sub : (outOps (F := F)).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., unary_bufs_sub .., reshape_bufs_sub ..⟩

theorem ops_sub : (ops (F := F)).Forall fun op => op.bufs ⊆ tcRefs τ sig :=
  List.forall_append.mpr ⟨distOps_sub, List.forall_append.mpr ⟨nearOps_sub, List.forall_append.mpr ⟨takeOps_sub, outOps_sub⟩⟩⟩

/-! ## What each list leaves, from any contents -/

/-- A line cut in two leaves what the second part leaves after the first. -/
theorem after_two (l k : List (HloOp τ sig (Elt F))) (V : Valuation τ sig (Elt F)) :
    after (l ++ k) V = after k (after l V) := by
  induction l generalizing V with
  | nil => rfl
  | cons op l ih => exact ih _

variable (V : Valuation τ sig (Elt F))

set_option maxHeartbeats 4000000

theorem dist_flat : after distOps V (Proc.devRef .tc main_v1) = flat (V (Proc.devRef .tc main_arg0)) := by
  after_results_simp <;> rfl
theorem dist_dist : after distOps V (Proc.devRef .tc main_v18)
    = dist (flat (V (Proc.devRef .tc main_arg0))) (V (Proc.devRef .tc main_arg1)) := by
  after_results_simp <;> rfl
theorem dist_z : after distOps V (Proc.devRef .tc main_arg0) = V (Proc.devRef .tc main_arg0) := by
  after_results_simp <;> rfl
theorem dist_e : after distOps V (Proc.devRef .tc main_arg1) = V (Proc.devRef .tc main_arg1) := by
  after_results_simp <;> rfl

theorem near_near : after nearOps V (Proc.devRef .tc main_v19) = near (V (Proc.devRef .tc main_v18)) := by
  after_results_simp <;> rfl
theorem near_flat : after nearOps V (Proc.devRef .tc main_v1) = V (Proc.devRef .tc main_v1) := by
  after_results_simp <;> rfl
theorem near_z : after nearOps V (Proc.devRef .tc main_arg0) = V (Proc.devRef .tc main_arg0) := by
  after_results_simp <;> rfl
theorem near_e : after nearOps V (Proc.devRef .tc main_arg1) = V (Proc.devRef .tc main_arg1) := by
  after_results_simp <;> rfl

theorem take_taken : after takeOps V (Proc.devRef .tc main_v20)
    = taken (V (Proc.devRef .tc main_arg1)) (V (Proc.devRef .tc main_v19)) := by
  after_results_simp <;> rfl
theorem take_near : after takeOps V (Proc.devRef .tc main_v19) = V (Proc.devRef .tc main_v19) := by
  after_results_simp <;> rfl
theorem take_flat : after takeOps V (Proc.devRef .tc main_v1) = V (Proc.devRef .tc main_v1) := by
  after_results_simp <;> rfl
theorem take_z : after takeOps V (Proc.devRef .tc main_arg0) = V (Proc.devRef .tc main_arg0) := by
  after_results_simp <;> rfl
theorem take_e : after takeOps V (Proc.devRef .tc main_arg1) = V (Proc.devRef .tc main_arg1) := by
  after_results_simp <;> rfl

theorem out_quant : after outOps V (Proc.devRef .tc main_v34)
    = quant (V (Proc.devRef .tc main_v1)) (V (Proc.devRef .tc main_v20)) := by
  after_results_simp <;> rfl
theorem out_loss : after outOps V (Proc.devRef .tc main_v30)
    = loss (V (Proc.devRef .tc main_v1)) (V (Proc.devRef .tc main_v20)) := by
  after_results_simp <;> rfl
theorem out_grid : after outOps V (Proc.devRef .tc main_v35) = grid (V (Proc.devRef .tc main_v19)) := by
  after_results_simp <;> rfl
theorem out_z : after outOps V (Proc.devRef .tc main_arg0) = V (Proc.devRef .tc main_arg0) := by
  after_results_simp <;> rfl
theorem out_e : after outOps V (Proc.devRef .tc main_arg1) = V (Proc.devRef .tc main_arg1) := by
  after_results_simp <;> rfl

/-! ## The run -/

/-- The found indices, as a function of the two arguments. -/
def idx (z : FVec F S8x256x32x32 .f32) (e : FVec F S1024x256 .f32) : IVec S8192 32 :=
  near (dist (flat z) e)

/-- From any memory with zero counters, every fair execution of the reference ends with the quantized rows, the loss and
    the indices in the result buffers, each the named function of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = quant (flat (m ((c.tc : Thread nD τ).loc main_arg0)))
            (taken (m ((c.tc : Thread nD τ).loc main_arg1))
              (idx (m ((c.tc : Thread nD τ).loc main_arg0)) (m ((c.tc : Thread nD τ).loc main_arg1))))
      ∧ r.2.mem ((c.tc : Thread nD τ).loc main_v30)
        = loss (flat (m ((c.tc : Thread nD τ).loc main_arg0)))
            (taken (m ((c.tc : Thread nD τ).loc main_arg1))
              (idx (m ((c.tc : Thread nD τ).loc main_arg0)) (m ((c.tc : Thread nD τ).loc main_arg1))))
      ∧ r.2.mem ((c.tc : Thread nD τ).loc main_v35)
        = grid (idx (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      refine ⟨(h c main_v34).trans ?_, (h c main_v30).trans ?_, (h c main_v35).trans ?_, (h c main_arg0).trans ?_,
        (h c main_arg1).trans ?_⟩ <;> simp only [ops, after_two]
      · rw [out_quant, take_taken, take_flat, near_near, near_flat, near_e, dist_dist, dist_flat, dist_e]; rfl
      · rw [out_loss, take_taken, take_flat, near_near, near_flat, near_e, dist_dist, dist_flat, dist_e]; rfl
      · rw [out_grid, take_near, near_near, dist_dist]; rfl
      · rw [out_z, take_z, near_z, dist_z]
      · rw [out_e, take_e, near_e, dist_e])
    (run_seq scopedRefs_eq scopedSems_eq defs main (fun _ => ops) main_eq (fun _ => ops_sub) m ρ)

/-- The reference terminates, leaves its two arguments as they were and every counter at zero. -/
theorem quiescent (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c).2.2.2.1, (h c).2.2.2.2⟩, sem_eq_zero_of_no_sems (by decide) r.2⟩)
    (run m ρ)

end Cert.Proof.Ref

end
-- ==== Proof.Literals.lean ====
module

public import Idealize.ShloMosaic.PureOps.Ideal.Laws

/-!
# The float constants of the two programs, as numbers
-/

@[expose] public section

namespace Cert.Proof

open Idealize.ShloMosaic

theorem word_top : Ideal.ofBits .f32 0x7F800000#32 = (⊤ : EReal) := by simp [Ideal.ofBits, Ideal.ieee]
theorem word_two : Ideal.ofBits .f32 0x40000000#32 = ((2 : ℝ) : EReal) := by
  simp [Ideal.ofBits, Ideal.ieee, ← EReal.coe_mul, -EReal.coe_mul]; norm_num
theorem word_quarter : Ideal.ofBits .f32 0x3E800000#32 = ((1 / 4 : ℝ) : EReal) := by
  simp [Ideal.ofBits, Ideal.ieee, ← EReal.coe_mul, -EReal.coe_mul]; norm_num
theorem word_five_quarters : Ideal.ofBits .f32 0x3FA00000#32 = ((5 / 4 : ℝ) : EReal) := by
  simp [Ideal.ofBits, Ideal.ieee, ← EReal.coe_mul, -EReal.coe_mul]; norm_num
theorem word_count : Ideal.ofBits .f32 0x4A000000#32 = ((2097152 : ℝ) : EReal) := by
  simp [Ideal.ofBits, Ideal.ieee, ← EReal.coe_mul, -EReal.coe_mul]; norm_num
theorem word_2048 : Ideal.ofBits .f32 0x45000000#32 = ((2048 : ℝ) : EReal) := by
  simp [Ideal.ofBits, Ideal.ieee, ← EReal.coe_mul, -EReal.coe_mul]; norm_num
theorem word_512 : Ideal.ofBits .f32 0x44000000#32 = ((512 : ℝ) : EReal) := by
  simp [Ideal.ofBits, Ideal.ieee, ← EReal.coe_mul, -EReal.coe_mul]; norm_num

end Cert.Proof
-- ==== Proof.Finite.lean ====
module

public import proofs.«01_k».proof.Proof.Literals
public import proofs.«01_k».proof.Pre_finite
public import Idealize.ShloMosaic.Lib.ReduceAll
public import Idealize.ShloMosaic.Lib.Affine

@[expose] public section

/-!
# What the precondition says

Every element of the two arguments is a real number.
-/

noncomputable section

namespace Cert.Proof.Finite

open Idealize.ShloMosaic

/-- The precondition's shape relations. -/
theorem facts : Cert.Pre_finite.Facts where
  bcast_S_S8x256x32x32 := by decide
  reducesTo_S8x256x32x32_S_d0_1_2_3 := by decide
  h_S_ := by decide
  bcast_S_S1024x256 := by decide
  reducesTo_S1024x256_S_d0_1 := by decide

/-- An extended real whose absolute value compares below infinity is a real number. -/
theorem real_of_lt {s : Shape} (x y : FVec Ideal s .f32) (i : s.Idx) (hy : y i = (⊤ : EReal))
    (h : cmpf .olt (Host.absf x) y i = 1#1) : x i = ((EReal.toReal (x i) : ℝ) : EReal) := by
  have h1 : cmpf .olt (Host.absf x) y i = BitVec.ofBool (decide (max (x i : EReal) (-(x i)) < (y i : EReal))) := rfl
  rw [h1, hy] at h
  generalize (x i : EReal) = a at h ⊢
  have h2 : max a (-a) < ⊤ := by
    by_contra hc
    rw [decide_eq_false hc] at h
    exact absurd h (by decide)
  refine (EReal.coe_toReal (fun ha => ?_) (fun ha => ?_)).symm
  · rw [ha] at h2; simp at h2
  · rw [ha] at h2; simp at h2

variable [Cert.Pre_finite.Facts] (z : FVec Ideal Cert.Pre_finite.S8x256x32x32 .f32)
  (e : FVec Ideal Cert.Pre_finite.S1024x256 .f32)

/-- Under the precondition every element of both arguments is real. -/
theorem real (h : Cert.Pre_finite.fn (F := Ideal) z e = fun _ => 1#1) :
    (∀ i, z i = ((EReal.toReal (z i) : ℝ) : EReal)) ∧ ∀ i, e i = ((EReal.toReal (e i) : ℝ) : EReal) := by
  haveI : Subsingleton Cert.Pre_finite.S_.Idx := ⟨fun a b => funext fun d => d.elim0⟩
  have h0 := congrFun h (fun d => d.elim0)
  obtain ⟨ha, hb⟩ := IntOp.andi_eq_one.1 h0
  exact ⟨fun i => real_of_lt z _ i word_top (Host.reduce_andi_all _ _ _ _ _ ha i),
    fun i => real_of_lt e _ i word_top (Host.reduce_andi_all _ _ _ _ _ hb i)⟩

end Cert.Proof.Finite

end
-- ==== Proof.FirstMin.lean ====
module

public import Idealize.ShloMosaic.Lib.Pointwise

/-!
# The first index of the smallest entry

`First d j` says that `j` is the first index at which `d` takes its smallest value.  It determines `j`, it can be
computed as the smallest index among those that attain the minimum, and it can be computed from the two halves of the
index range.
-/

@[expose] public section

namespace Cert.Proof

/-- `j` is the first index of the smallest entry of `d`. -/
def First {n : ℕ} (d : Fin n → EReal) (j : Fin n) : Prop :=
  (∀ k, d j ≤ d k) ∧ ∀ k, k < j → d j < d k

namespace First

variable {n : ℕ} {d : Fin n → EReal} {j k : Fin n}

/-- There is only one first index of the smallest entry. -/
theorem unique (hj : First d j) (hk : First d k) : j = k := by
  rcases lt_trichotomy j k with h | h | h
  · exact absurd (hk.2 j h) (not_lt.mpr (hj.1 k))
  · exact h
  · exact absurd (hj.2 k h) (not_lt.mpr (hk.1 j))

/-- A nonempty row has a first index of its smallest entry. -/
theorem exists_of_pos (d : Fin n → EReal) (hn : 0 < n) : ∃ j, First d j := by
  classical
  obtain ⟨a, -, ha⟩ := Finset.exists_min_image Finset.univ d ⟨⟨0, hn⟩, Finset.mem_univ _⟩
  let s : Finset (Fin n) := Finset.univ.filter fun k => d k = d a
  have hs : s.Nonempty := ⟨a, by simp [s]⟩
  have hm : d (s.min' hs) = d a := (Finset.mem_filter.mp (s.min'_mem hs)).2
  refine ⟨s.min' hs, fun k => hm ▸ ha k (Finset.mem_univ _), fun k hk => ?_⟩
  refine lt_of_le_of_ne (hm ▸ ha k (Finset.mem_univ _)) fun h => ?_
  exact absurd (s.min'_le k (by simp [s, ← h, hm])) (not_le.mpr hk)

/-- The fold of `min` over a row, from the top, is the smallest entry. -/
theorem fold_min (hj : First d j) : Finset.univ.fold min ⊤ d = d j := by
  apply le_antisymm
  · exact (Finset.fold_min_le _).mpr (Or.inr ⟨j, Finset.mem_univ _, le_rfl⟩)
  · exact (Finset.le_fold_min _).mpr ⟨le_top, fun k _ => hj.1 k⟩

/-- The smallest index among those that attain the minimum, the others replaced by a number beyond the range, is the first
    index. -/
theorem fold_index (hj : First d j) {N : ℝ} (hN : (n : ℝ) ≤ N) (p : Fin n → Prop) [DecidablePred p]
    (hp : ∀ k, p k ↔ d k = d j) :
    Finset.univ.fold min ⊤ (fun k : Fin n => if p k then (((k : ℕ) : ℝ) : EReal) else (N : EReal)) = (((j : ℕ) : ℝ) : EReal) := by
  apply le_antisymm
  · exact (Finset.fold_min_le _).mpr (Or.inr ⟨j, Finset.mem_univ _, by rw [if_pos ((hp j).mpr rfl)]⟩)
  · refine (Finset.le_fold_min _).mpr ⟨le_top, fun k _ => ?_⟩
    split
    · next h =>
      have hk : d k = d j := (hp k).mp h
      have : j ≤ k := not_lt.mp fun hlt => absurd (hj.2 k hlt) (by rw [hk]; exact lt_irrefl _)
      exact EReal.coe_le_coe_iff.mpr (by exact_mod_cast this)
    · have : ((j : ℕ) : ℝ) ≤ n := by exact_mod_cast j.2.le
      exact EReal.coe_le_coe_iff.mpr (this.trans hN)

/-- From two halves of the range: the second half's first index where its minimum is strictly smaller, else the first
    half's. -/
theorem halves {a : ℕ} {d : Fin (a + a) → EReal} {p q : Fin a}
    (hp : First (fun k => d (Fin.castAdd a k)) p) (hq : First (fun k => d (Fin.natAdd a k)) q) :
    First d (if d (Fin.natAdd a q) < d (Fin.castAdd a p) then Fin.natAdd a q else Fin.castAdd a p) := by
  split
  · next h =>
    refine ⟨fun k => ?_, fun k hk => ?_⟩
    · refine Fin.addCases (fun i => h.le.trans (hp.1 i)) (fun i => hq.1 i) k
    · revert hk
      refine Fin.addCases (fun i _ => h.trans_le (hp.1 i)) (fun i hk => hq.2 i ?_) k
      simp only [Fin.lt_def, Fin.val_natAdd] at hk ⊢
      omega
  · next h =>
    have h := not_lt.mp h
    refine ⟨fun k => ?_, fun k hk => ?_⟩
    · refine Fin.addCases (fun i => hp.1 i) (fun i => h.trans (hq.1 i)) k
    · revert hk
      refine Fin.addCases (fun i hk => hp.2 i hk) (fun i hk => ?_) k
      simp only [Fin.lt_def, Fin.val_natAdd, Fin.val_castAdd] at hk
      omega

/-- The smallest entry from the minima of two halves. -/
theorem min_halves {a : ℕ} {d : Fin (a + a) → EReal} {p q : Fin a} {j : Fin (a + a)}
    (hp : First (fun k => d (Fin.castAdd a k)) p) (hq : First (fun k => d (Fin.natAdd a k)) q) (hj : First d j) :
    min (d (Fin.castAdd a p)) (d (Fin.natAdd a q)) = d j := by
  rw [hj.unique (halves hp hq)]
  split
  · next h => exact min_eq_right h.le
  · next h => exact min_eq_left (not_lt.mp h)

/-- A pass over the columns in increasing order that keeps the entry held unless the next one is strictly smaller ends at
    the first index of the smallest entry among those seen. -/
theorem pass (d : Fin n → EReal) (l : List (Fin n)) (a : Fin n) (hl : (a :: l).Pairwise (· < ·)) :
    ∃ b ∈ a :: l, l.foldl (fun s k => if d k < d s then k else s) a = b ∧ (∀ k ∈ a :: l, d b ≤ d k)
      ∧ ∀ k ∈ a :: l, k < b → d b < d k := by
  induction l generalizing a with
  | nil => exact ⟨a, by simp, rfl, by simp, by simp⟩
  | cons h l ih =>
    obtain ⟨hah, hl'⟩ := List.pairwise_cons.mp hl
    rw [List.foldl_cons]
    by_cases hd : d h < d a
    · rw [if_pos hd]
      obtain ⟨b, hb, e, h1, h2⟩ := ih h hl'
      refine ⟨b, List.mem_cons_of_mem _ hb, e, ?_, ?_⟩
      · intro k hk
        rcases List.mem_cons.mp hk with rfl | hk
        · exact (h1 h (by simp)).trans hd.le
        · exact h1 k hk
      · intro k hk hkb
        rcases List.mem_cons.mp hk with rfl | hk
        · exact (h1 h (by simp)).trans_lt hd
        · exact h2 k hk hkb
    · rw [if_neg hd]
      have hd := not_lt.mp hd
      have hl2 : (a :: l).Pairwise (· < ·) :=
        List.pairwise_cons.mpr ⟨fun k hk => hah k (List.mem_cons_of_mem _ hk), (List.pairwise_cons.mp hl').2⟩
      obtain ⟨b, hb, e, h1, h2⟩ := ih a hl2
      refine ⟨b, ?_, e, ?_, ?_⟩
      · rcases List.mem_cons.mp hb with rfl | hb
        · simp
        · simp [hb]
      · intro k hk
        rcases List.mem_cons.mp hk with rfl | hk
        · exact h1 _ (by simp)
        rcases List.mem_cons.mp hk with rfl | hk
        · exact (h1 a (by simp)).trans hd
        · exact h1 k (by simp [hk])
      · intro k hk hkb
        rcases List.mem_cons.mp hk with rfl | hk
        · exact h2 _ (by simp) hkb
        rcases List.mem_cons.mp hk with rfl | hk
        · exact (h2 a (by simp) ((hah k (by simp)).trans hkb)).trans_le hd
        · exact h2 k (by simp [hk]) hkb

end First

end Cert.Proof
-- ==== Proof.KerRow.lean ====
module

public import proofs.«01_k».proof.Proof.Gen.KernelIdeal.Skeleton
public import proofs.«01_k».proof.Proof.Literals
public import proofs.«01_k».proof.Proof.FirstMin
public import Idealize.ShloMosaic.Lib.Pointwise
@[expose] public section

/-!
# The kernel's search inside one half of the codebook

The kernel looks at a row of 512 distances.  It takes the least of them, compares every distance with it, keeps the
column number where they agree (2048 elsewhere), and takes the least of those: the first column at which the row is least.
-/

noncomputable section

namespace Cert.Proof.Ker

open Cert.KernelIdeal Cert.KernelIdeal.Gen Idealize.ShloMosaic

/-- The least entry of every row, kept as a column. -/
def least (x : FVec Ideal S2048x512 .f32) : FVec Ideal S2048x1 .f32 :=
  shapeCast S2048x1
    (multiReduction .minimumf [1] S2048 x 0x7F800000#32 reduces_S2048x512_S2048 (.inl rfl) rfl) shapeCasts_S2048_S2048x1

/-- The column numbers `n` where `x` equals the entry of `l` for its row, and 2048 elsewhere. -/
def marked (x : FVec Ideal S2048x512 .f32) (l : FVec Ideal S2048x1 .f32) (n : FVec Ideal S2048x512 .f32) :
    FVec Ideal S2048x512 .f32 :=
  select (cmpf .oeq x (broadcastTo S2048x512 l broadcasts_S2048x1_S2048x512)) n
    (broadcast S2048x512 (Scalar.ofBits (F := Ideal) .f32 0x45000000#32))

/-- The least entry of row `r`, as a fold over the columns. -/
theorem least_fold (x : FVec Ideal S2048x512 .f32) (r : Fin 2048) :
    least x (ix2 r 0) = Finset.univ.fold min ⊤ (fun k : Fin 512 => (x (ix2 r k) : EReal)) := by
  unfold least
  simp only [pointwise, word_top]

/-- If column `j` is the first at which row `r` is least, the least entry of the row is the one at `j`. -/
theorem least_at (x : FVec Ideal S2048x512 .f32) (r : Fin 2048) (j : Fin 512)
    (hj : First (fun k => (x (ix2 r k) : EReal)) j) : least x (ix2 r 0) = x (ix2 r j) :=
  (least_fold x r).trans hj.fold_min

/-- A column spread along the rows. -/
theorem spread_at (l : FVec Ideal S2048x1 .f32) (r : Fin 2048) (k : Fin 512) :
    broadcastTo S2048x512 l broadcasts_S2048x1_S2048x512 (ix2 r k) = l (ix2 r 0) := by
  simp only [pointwise]
  rfl

/-- What the marks hold at an index. -/
theorem marked_at (x : FVec Ideal S2048x512 .f32) (l : FVec Ideal S2048x1 .f32) (n : FVec Ideal S2048x512 .f32)
    (r : Fin 2048) (k : Fin 512) :
    marked x l n (ix2 r k) = if (x (ix2 r k) : EReal) = l (ix2 r 0) then n (ix2 r k) else (((2048 : ℝ)) : EReal) := by
  have h : marked x l n (ix2 r k)
      = Scalar.select (BitVec.ofBool (decide ((x (ix2 r k) : EReal) = l (ix2 r 0)))) (n (ix2 r k))
          (Ideal.ofBits .f32 0x45000000#32) := by
    rw [← spread_at l r k]; rfl
  rw [h, word_2048]
  by_cases e : (x (ix2 r k) : EReal) = l (ix2 r 0)
  · rw [if_pos e, decide_eq_true e]; rfl
  · rw [if_neg e, decide_eq_false e]; rfl

/-- The least mark of a row is the number of the first column at which the row is least. -/
theorem least_marked (x : FVec Ideal S2048x512 .f32) (l : FVec Ideal S2048x1 .f32) (n : FVec Ideal S2048x512 .f32)
    (r : Fin 2048) (j : Fin 512) (hj : First (fun k => (x (ix2 r k) : EReal)) j)
    (hl : l (ix2 r 0) = x (ix2 r j)) (hn : ∀ k : Fin 512, n (ix2 r k) = (((k : ℕ) : ℝ) : EReal)) :
    least (marked x l n) (ix2 r 0) = (((j : ℕ) : ℝ) : EReal) := by
  rw [least_fold, ← hj.fold_index (N := 2048) (by norm_num) (fun k => (x (ix2 r k) : EReal) = l (ix2 r 0))
    (fun k => by rw [hl])]
  congr 1
  funext k
  rw [marked_at, hn k]

/-- The column numbers, as the kernel writes them. -/
theorem number_at (r : Fin 2048) (k : Fin 512) :
    k0_pay9 (F := Ideal) (ix2 r k) = (((k : ℕ) : ℝ) : EReal) := by
  have h : k0_pay9 (F := Ideal) (ix2 r k) = (((BitVec.ofNat 32 (0 * 512 + k.val)).toInt : ℝ) : EReal) := rfl
  rw [h, Nat.zero_mul, Nat.zero_add]
  have e : (BitVec.ofNat 32 k.val).toInt = (k.val : ℤ) := by
    have := k.isLt
    rw [BitVec.toInt_eq_toNat_cond, BitVec.toNat_ofNat, Nat.mod_eq_of_lt (by omega)]
    rw [if_pos (by omega)]
  rw [e]
  norm_num

end Cert.Proof.Ker

end
-- ==== Proof.Distance.lean ====
module

public import Idealize.ShloMosaic.PureOps.Ideal.Laws

/-!
# The distance, and its expanded square

For real rows `x` and `e`, the squared distance is the sum of the squares of the differences.  Both programs compute it by
the expanded square, cut off at zero, and take the root; over real entries the cut does nothing.
-/

@[expose] public section

noncomputable section

namespace Cert.Proof

open Idealize.ShloMosaic

/-- The squared distance of two rows. -/
def sqDist {n : ℕ} (x e : Fin n → ℝ) : ℝ := ∑ c, (x c - e c) ^ 2

theorem sqDist_nonneg {n : ℕ} (x e : Fin n → ℝ) : 0 ≤ sqDist x e := Finset.sum_nonneg fun _ _ => sq_nonneg _

/-- A sum of reals, read in the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The expanded square. -/
theorem expand {n : ℕ} (x e : Fin n → ℝ) :
    ∑ c, x c * x c + ∑ c, e c * e c - 2 * ∑ c, x c * e c = sqDist x e := by
  rw [sqDist, Finset.mul_sum, ← Finset.sum_add_distrib, ← Finset.sum_sub_distrib]
  exact Finset.sum_congr rfl fun _ _ => by ring

/-- The root of a real that is not negative, cut off at zero first. -/
theorem root_of {r : ℝ} (h : 0 ≤ r) : Ideal.sqrt (max (r : EReal) 0) = ((Real.sqrt r : ℝ) : EReal) := by
  rw [max_eq_left (EReal.coe_nonneg.mpr h), Ideal.sqrt_coe, if_neg (not_lt.mpr h)]

/-- The root of the expanded square with twice the product of the rows is the distance. -/
theorem root_outer {n : ℕ} (x e : Fin n → ℝ) :
    Ideal.sqrt (max ((∑ c, (x c : EReal) * (x c : EReal)) + (∑ c, (e c : EReal) * (e c : EReal))
      - ((2 : ℝ) : EReal) * ∑ c, (x c : EReal) * (e c : EReal)) 0) = ((Real.sqrt (sqDist x e) : ℝ) : EReal) := by
  simp only [← EReal.coe_mul, coe_sum, ← EReal.coe_add, ← EReal.coe_sub]
  rw [expand, root_of (sqDist_nonneg x e)]

/-- The root of the expanded square with the product of one row and twice the other is the distance. -/
theorem root_inner {n : ℕ} (x e : Fin n → ℝ) :
    Ideal.sqrt (max ((∑ c, (x c : EReal) * (x c : EReal)) + (∑ c, (e c : EReal) * (e c : EReal))
      - ∑ c, (x c : EReal) * ((e c : EReal) * ((2 : ℝ) : EReal))) 0) = ((Real.sqrt (sqDist x e) : ℝ) : EReal) := by
  simp only [← EReal.coe_mul, coe_sum, ← EReal.coe_add, ← EReal.coe_sub]
  have h : ∑ c, x c * (e c * 2) = 2 * ∑ c, x c * e c := by
    rw [Finset.mul_sum]; exact Finset.sum_congr rfl fun _ _ => by ring
  rw [h, expand, root_of (sqDist_nonneg x e)]

/-- The square of the distance is the sum of the squared differences. -/
theorem dist_sq {n : ℕ} (x e : Fin n → ℝ) :
    ((Real.sqrt (sqDist x e) : ℝ) : EReal) * ((Real.sqrt (sqDist x e) : ℝ) : EReal)
      = ∑ c, ((x c : EReal) - (e c : EReal)) * ((x c : EReal) - (e c : EReal)) := by
  simp only [← EReal.coe_mul, ← EReal.coe_sub, coe_sum]
  rw [Real.mul_self_sqrt (sqDist_nonneg x e), sqDist]
  exact congrArg _ (Finset.sum_congr rfl fun _ _ => by ring)

end Cert.Proof

end
-- ==== Proof.KerBlock.lean ====
module

public import proofs.«01_k».proof.Proof.KerRow
public import proofs.«01_k».proof.Proof.Distance
@[expose] public section

/-!
# What one block of the kernel computes

The kernel's block is 2048 rows.  For each row it searches both halves of the codebook for the first nearest entry
and keeps the nearer of the two finds, the first half's on a tie.  With real data: the number it keeps is that of the
first nearest entry of the whole codebook, the row it writes is that entry, and what it adds to the loss is the squared
distance to that entry.
-/

noncomputable section

namespace Cert.Proof.Ker

open Cert.KernelIdeal Cert.KernelIdeal.Gen Idealize.ShloMosaic

variable (v0 : Vec Ideal S2048x256 .f32) (w w' : Vec Ideal S256x512 .f32) (s s' : Vec Ideal S1x512 .f32)
  (v61 : Vec Ideal S1024x256 .bf16)

/-- The kernel's distance from row `r` to column `k` of one half is the distance between the two real vectors, when the
    half holds twice the entries and their squared lengths. -/
theorem half_dist (r : Fin 2048) (k : Fin 512) (x e : Fin 256 → ℝ)
    (hx : ∀ c : Fin 256, v0 (ix2 r c) = ((x c : ℝ) : EReal))
    (hw : ∀ c : Fin 256, w (ix2 c k) = ((e c : ℝ) : EReal) * ((2 : ℝ) : EReal))
    (hs : s (ix2 0 k) = ∑ c, ((e c : ℝ) : EReal) * ((e c : ℝ) : EReal)) :
    k0_pay10 v0 w s (ix2 r k) = ((Real.sqrt (sqDist x e) : ℝ) : EReal) := by
  rw [← root_inner x e, ← hs]
  simp only [← hw, ← hx]
  unfold k0_pay10 k0_pay8 k0_pay7
  simp only [pointwise]
  show Ideal.sqrt (max (∑ k, v0 (ix2 r k) * v0 (ix2 r k) + s (ix2 0 k) - (0 + ∑ c, v0 (ix2 r c) * w (ix2 c k))) 0) = _
  rw [zero_add]

/-- Choosing between two columns by comparing two others. -/
theorem lesser_at (a b x y : FVec Ideal S2048x1 .f32) (i : S2048x1.Idx) :
    select (cmpf .olt a b) x y i = if (a i : EReal) < b i then x i else y i := by
  have h : select (cmpf .olt a b) x y i = Scalar.select (BitVec.ofBool (decide ((a i : EReal) < b i))) (x i) (y i) := rfl
  rw [h]
  by_cases e : (a i : EReal) < b i
  · rw [if_pos e, decide_eq_true e]; rfl
  · rw [if_neg e, decide_eq_false e]; rfl

/-- A constant added to a column. -/
theorem shifted_at (a : FVec Ideal S2048x1 .f32) (b : BitVec 32) (i : S2048x1.Idx) :
    addf a (broadcast S2048x1 (Scalar.ofBits (F := Ideal) .f32 b)) i = (a i : EReal) + Ideal.ofBits .f32 b := rfl

/-- The columns the search of both halves chooses from. -/
theorem kept_vec (v6 : FVec Ideal S2048x512 .f32) (v20 v28 : FVec Ideal S2048x1 .f32) (v39 : FVec Ideal S2048x512 .f32) :
    k0_pay3 v6 v20 v28 v39
      = select (cmpf .olt (least (k0_pay1 v39)) v20)
          (addf (least (marked (k0_pay1 v39) (least (k0_pay1 v39)) v6))
            (broadcast S2048x1 (Scalar.ofBits (F := Ideal) .f32 0x44000000#32))) v28 := rfl

/-- The number kept from the first half. -/
theorem low_vec :
    k0_pay12 v0 w s = addf (least (marked (k0_pay10 v0 w s) (least (k0_pay10 v0 w s)) k0_pay9))
      (broadcast S2048x1 (Scalar.ofBits (F := Ideal) .f32 0x00000000#32)) := rfl

/-- What the search of both halves keeps at row `r`. -/
theorem kept_eq (v6 : FVec Ideal S2048x512 .f32) (v20 v28 : FVec Ideal S2048x1 .f32) (v39 : FVec Ideal S2048x512 .f32)
    (r : Fin 2048) :
    k0_pay3 v6 v20 v28 v39 (ix2 r 0)
      = if (least (k0_pay1 v39) (ix2 r 0) : EReal) < v20 (ix2 r 0) then
          (least (marked (k0_pay1 v39) (least (k0_pay1 v39)) v6) (ix2 r 0) : EReal) + ((512 : ℝ) : EReal)
        else v28 (ix2 r 0) := by
  rw [kept_vec, lesser_at, shifted_at, word_512]

section Row

variable (r : Fin 2048) (x : Fin 256 → ℝ) (e : Fin (512 + 512) → Fin 256 → ℝ)
  (hx : ∀ c : Fin 256, v0 (ix2 r c) = ((x c : ℝ) : EReal))
  (hw : ∀ (c : Fin 256) (k : Fin 512), w (ix2 c k) = ((e (Fin.castAdd 512 k) c : ℝ) : EReal) * ((2 : ℝ) : EReal))
  (hs : ∀ k : Fin 512, s (ix2 0 k) = ∑ c, ((e (Fin.castAdd 512 k) c : ℝ) : EReal) * ((e (Fin.castAdd 512 k) c : ℝ) : EReal))
  (hw' : ∀ (c : Fin 256) (k : Fin 512), w' (ix2 c k) = ((e (Fin.natAdd 512 k) c : ℝ) : EReal) * ((2 : ℝ) : EReal))
  (hs' : ∀ k : Fin 512, s' (ix2 0 k) = ∑ c, ((e (Fin.natAdd 512 k) c : ℝ) : EReal) * ((e (Fin.natAdd 512 k) c : ℝ) : EReal))
  (j : Fin (512 + 512)) (hj : First (fun k => ((Real.sqrt (sqDist x (e k)) : ℝ) : EReal)) j)

include hx hw hs in
/-- The distances of the first half, along row `r`. -/
theorem row_low : (fun k : Fin 512 => (k0_pay10 v0 w s (ix2 r k) : EReal))
    = fun k => ((Real.sqrt (sqDist x (e (Fin.castAdd 512 k))) : ℝ) : EReal) :=
  funext fun k => half_dist v0 w s r k x _ hx (fun c => hw c k) (hs k)

include hx hw' hs' in
/-- The distances of the second half, along row `r`. -/
theorem row_high : (fun k : Fin 512 => (k0_pay1 (k0_pay13 v0 w' s') (ix2 r k) : EReal))
    = fun k => ((Real.sqrt (sqDist x (e (Fin.natAdd 512 k))) : ℝ) : EReal) :=
  funext fun k => half_dist v0 w' s' r k x _ hx (fun c => hw' c k) (hs' k)

include hx hw hs hw' hs' hj in
/-- The number kept for row `r` is that of the first nearest entry of the whole codebook. -/
theorem kept_at : k0_pay3 k0_pay9 (k0_pay11 v0 w s) (k0_pay12 v0 w s) (k0_pay13 v0 w' s') (ix2 r 0)
    = (((j : ℕ) : ℝ) : EReal) := by
  have low := row_low v0 w s r x e hx hw hs
  have high := row_high v0 w' s' r x e hx hw' hs'
  obtain ⟨p, hp⟩ := First.exists_of_pos (fun k : Fin 512 => ((Real.sqrt (sqDist x (e (Fin.castAdd 512 k))) : ℝ) : EReal)) (by norm_num)
  obtain ⟨q, hq⟩ := First.exists_of_pos (fun k : Fin 512 => ((Real.sqrt (sqDist x (e (Fin.natAdd 512 k))) : ℝ) : EReal)) (by norm_num)
  have hj' := hj.unique (First.halves hp hq)
  rw [← low] at hp
  rw [← high] at hq
  have l20 : (k0_pay11 v0 w s (ix2 r 0) : EReal) = ((Real.sqrt (sqDist x (e (Fin.castAdd 512 p))) : ℝ) : EReal) :=
    (least_at (k0_pay10 v0 w s) r p hp).trans (congrFun low p)
  have l28 : (k0_pay12 v0 w s (ix2 r 0) : EReal) = (((p : ℕ) : ℝ) : EReal) := by
    rw [low_vec, shifted_at, least_marked _ _ _ r p hp (least_at _ r p hp) (number_at r)]
    rw [Ideal.ofBits_zero_f32, add_zero]
  have l42 := (least_at _ r q hq).trans (congrFun high q)
  rw [kept_eq, l20, l28, l42, least_marked _ _ _ r q hq (least_at _ r q hq) (number_at r), hj']
  split
  · rw [← EReal.coe_add, Fin.val_natAdd, Nat.cast_add, Nat.cast_ofNat, add_comm]
  · rw [Fin.val_castAdd]

include hx hw hs hw' hs' hj in
/-- The least distance kept for row `r` is the distance to the first nearest entry. -/
theorem nearest_at : min (k0_pay11 v0 w s (ix2 r 0) : EReal) (k0_pay2 (k0_pay13 v0 w' s') (ix2 r 0))
    = ((Real.sqrt (sqDist x (e j)) : ℝ) : EReal) := by
  have low := row_low v0 w s r x e hx hw hs
  have high := row_high v0 w' s' r x e hx hw' hs'
  obtain ⟨p, hp⟩ := First.exists_of_pos (fun k : Fin 512 => ((Real.sqrt (sqDist x (e (Fin.castAdd 512 k))) : ℝ) : EReal)) (by norm_num)
  obtain ⟨q, hq⟩ := First.exists_of_pos (fun k : Fin 512 => ((Real.sqrt (sqDist x (e (Fin.natAdd 512 k))) : ℝ) : EReal)) (by norm_num)
  rw [← First.min_halves hp hq hj]
  rw [← low] at hp
  rw [← high] at hq
  exact congrArg₂ min ((least_at (k0_pay10 v0 w s) r p hp).trans (congrFun low p))
    ((least_at _ r q hq).trans (congrFun high q))

end Row

/-- A natural number below 1024, kept as a real and turned back into a word. -/
theorem word_of_number (j : ℕ) (hj : j < 1024) :
    Ideal.fptosi 32 (((j : ℝ)) : EReal) = BitVec.ofNat 32 j := by
  have h : Ideal.toIntClamped (-2147483648) 2147483647 (((j : ℝ)) : EReal) = (j : ℤ) := by
    have : Ideal.toIntClamped (-2147483648) 2147483647 (((j : ℝ)) : EReal)
        = max (-2147483648) (min 2147483647 (if (0 : ℝ) ≤ (j : ℝ) then ⌊(j : ℝ)⌋ else ⌈(j : ℝ)⌉)) := rfl
    rw [this, if_pos (Nat.cast_nonneg j), Int.floor_natCast]
    omega
  have g : Ideal.fptosi 32 (((j : ℝ)) : EReal)
      = BitVec.ofInt 32 (Ideal.toIntClamped (-2147483648) 2147483647 (((j : ℝ)) : EReal)) := by
    unfold Ideal.fptosi
    norm_num
  rw [g, h, BitVec.ofInt_natCast]

/-- The index written for row `i` of the block. -/
theorem index_at (v6 : FVec Ideal S2048x512 .f32) (v20 v28 : FVec Ideal S2048x1 .f32) (v39 : FVec Ideal S2048x512 .f32)
    (r : Fin 2048) (j : ℕ) (hj : j < 1024) (h : k0_pay3 v6 v20 v28 v39 (ix2 r 0) = (((j : ℝ)) : EReal)) :
    k0_pay5 v6 v20 v28 v39 (ix3 0 0 r) = BitVec.ofNat 32 j := by
  rw [← word_of_number j hj, ← h]
  unfold k0_pay5
  simp only [pointwise]
  rfl

/-- The row written is the entry whose number was kept: the product of a row that is 1 at that number and 0 elsewhere
    with the codebook. -/
theorem row_at (v6 : FVec Ideal S2048x512 .f32) (v20 v28 : FVec Ideal S2048x1 .f32) (v39 : FVec Ideal S2048x512 .f32)
    (r : Fin 2048) (j : Fin 1024) (h : k0_pay3 v6 v20 v28 v39 (ix2 r 0) = (((j : ℕ) : ℝ) : EReal)) (c : Fin 256) :
    k0_pay4 v6 v20 v28 v39 v61 (ix2 r c) = v61 (ix2 j c) := by
  have e : k0_pay4 v6 v20 v28 v39 v61 (ix2 r c)
      = 0 + ∑ k : Fin 1024, (((BitVec.setWidth 32 (BitVec.ofBool
            (decide ((((BitVec.ofNat 32 (0 * 1024 + k.val)).toInt : ℝ) : EReal) = k0_pay3 v6 v20 v28 v39 (ix2 r 0))))).toInt : ℝ) : EReal)
          * (v61 (ix2 k c) : EReal) := by
    unfold k0_pay4
    simp only [pointwise]
    rfl
  rw [e, zero_add, h, Finset.sum_eq_single j]
  · have : (BitVec.ofNat 32 (0 * 1024 + j.val)).toInt = (j.val : ℤ) := by
      have := j.isLt
      rw [Nat.zero_mul, Nat.zero_add, BitVec.toInt_eq_toNat_cond, BitVec.toNat_ofNat, Nat.mod_eq_of_lt (by omega)]
      rw [if_pos (by omega)]
    have one : (BitVec.setWidth 32 (BitVec.ofBool true)).toInt = 1 := by decide
    rw [this, decide_eq_true (by norm_num), one, Int.cast_one, EReal.coe_one, one_mul]
  · intro k _ hk
    have : (BitVec.ofNat 32 (0 * 1024 + k.val)).toInt = (k.val : ℤ) := by
      have := k.isLt
      rw [Nat.zero_mul, Nat.zero_add, BitVec.toInt_eq_toNat_cond, BitVec.toNat_ofNat, Nat.mod_eq_of_lt (by omega)]
      rw [if_pos (by omega)]
    rw [this, decide_eq_false (fun q => hk (Fin.ext (by
      have := EReal.coe_eq_coe_iff.mp q
      exact_mod_cast this)))]
    have zero : (BitVec.setWidth 32 (BitVec.ofBool false)).toInt = 0 := by decide
    rw [zero, Int.cast_zero, EReal.coe_zero, zero_mul]
  · exact fun n => absurd (Finset.mem_univ j) n

/-- What a block adds to the loss: over its rows, the square of the least distance. -/
theorem added_at (v20 : FVec Ideal S2048x1 .f32) (v39 : FVec Ideal S2048x512 .f32) (i : Fin 128) :
    k0_pay6 v20 v39 (ix3 0 0 i)
      = ∑ r : Fin 2048, min (v20 (ix2 r 0) : EReal) (k0_pay2 v39 (ix2 r 0)) * min (v20 (ix2 r 0) : EReal) (k0_pay2 v39 (ix2 r 0)) := by
  unfold k0_pay6
  simp only [pointwise]
  refine Finset.sum_congr rfl fun r _ => ?_
  exact Fin.sum_univ_one _

end Cert.Proof.Ker

end
-- ==== Proof.KerHost.lean ====
module

public import proofs.«01_k».proof.Proof.Gen.KernelIdeal.Frame
public import Idealize.ShloMosaic.Lib.StableHlo.Run

/-!
# The host operations around the kernel

Before the kernel the host flattens `z` to rows, doubles and transposes the codebook, sums the squares of its rows and
narrows it.  After the kernel it puts the rows back in the layout of `z`, sums one number per block into the loss, and
puts the indices in the grid of `z`.
-/

@[expose] public section

noncomputable section

namespace Cert.Proof.Ker

open Cert.KernelIdeal Cert.KernelIdeal.Gen Idealize.ShloMosaic Idealize.ShloMosaic.TcCoe
open Idealize.ShloMosaic.StableHlo

variable {F : FTy → Type} [FloatOps F]

/-- The pixels of `z` as rows: channels last, one row per batch and pixel. -/
def rows (z : FVec F S8x256x32x32 .f32) : FVec F S8192x256 .f32 :=
  shapeCast S8192x256 (transpose S8x32x32x256 [0, 2, 3, 1] z transposes_S8x256x32x32_S8x32x32x256_0_2_3_1)
    shapeCasts_S8x32x32x256_S8192x256

/-- The codebook doubled, one column per entry. -/
def doubled (e : FVec F S1024x256 .f32) : FVec F S256x1024 .f32 :=
  transpose S256x1024 [1, 0]
    (mulf e (broadcastInDim S1024x256 ![] bcast_S_S1024x256 (constant S_ .f32 0x40000000#32)))
    transposes_S1024x256_S256x1024_1_0

/-- The squared length of every entry of the codebook, as one row. -/
def lengths (e : FVec F S1024x256 .f32) : FVec F S1x1024 .f32 :=
  broadcastInDim S1x1024 ![1] bcast_S1024_S1x1024_1
    (Host.reduceAdd (mulf e e) (constant S_ .f32 0x00000000#32) reducesTo_S1024x256_S1024_d1 h_S_)

/-- The codebook narrowed. -/
def narrow (e : FVec F S1024x256 .f32) : FVec F S1024x256 .bf16 := truncf .bf16 e bitsLt_bf16_f32

/-- Rows in the layout of `z`. -/
def back (a : FVec F S8192x256 .f32) : FVec F S8x256x32x32 .f32 :=
  transpose S8x256x32x32 [0, 3, 1, 2] (shapeCast S8x32x32x256 a shapeCasts_S8192x256_S8x32x32x256)
    transposes_S8x32x32x256_S8x256x32x32_0_3_1_2

/-- One and a quarter times the mean of what the blocks added. -/
def weighed (a : FVec F S4x1x128 .f32) : FVec F S_ .f32 :=
  mulf (constant S_ .f32 0x3FA00000#32)
    (Host.divf
      (Host.reduceAdd (shapeCast S4 (extractStridedSlice S4x1x1 ![0, 0, 0] a slices_S4x1x128_S4x1x1_0_0_0) shapeCasts_S4x1x1_S4)
        (constant S_ .f32 0x00000000#32) reducesTo_S4_S_d0 h_S_)
      (constant S_ .f32 0x4A000000#32))

/-- Indices in the grid of `z`. -/
def gridded (a : IVec S4x1x2048 32) : IVec S8x32x32 32 := shapeCast S8x32x32 a shapeCasts_S4x1x2048_S8x32x32

variable (V : Valuation τ sig (Elt F))

set_option maxHeartbeats 4000000

theorem head_rows : after hostOps0 V (Proc.devRef .tc main_v1) = rows (V (Proc.devRef .tc main_arg0)) := by
  after_results_simp <;> rfl
theorem head_doubled : after hostOps0 V (Proc.devRef .tc main_v4) = doubled (V (Proc.devRef .tc main_arg1)) := by
  after_results_simp <;> rfl
theorem head_lengths : after hostOps0 V (Proc.devRef .tc main_v7) = lengths (V (Proc.devRef .tc main_arg1)) := by
  after_results_simp <;> rfl
theorem head_narrow : after hostOps0 V (Proc.devRef .tc main_v8) = narrow (V (Proc.devRef .tc main_arg1)) := by
  after_results_simp <;> rfl

theorem tail_back : after hostOps1 V (Proc.devRef .tc main_v11) = back (V (Proc.devRef .tc main_v9_0)) := by
  after_results_simp <;> rfl
theorem tail_weighed : after hostOps1 V (Proc.devRef .tc main_v16) = weighed (V (Proc.devRef .tc main_v9_2)) := by
  after_results_simp <;> rfl
theorem tail_gridded : after hostOps1 V (Proc.devRef .tc main_v17) = gridded (V (Proc.devRef .tc main_v9_1)) := by
  after_results_simp <;> rfl

end Cert.Proof.Ker

end
-- ==== Proof.KerLoad.lean ====
module

public import proofs.«01_k».proof.Proof.KerBlock
public import proofs.«01_k».proof.Proof.KerHost
public import Idealize.ShloMosaic.Lib.Pipeline.ValueKit
@[expose] public section

/-!
# What one point of the kernel reads

Block `t` of the kernel is rows `2048 t` to `2048 t + 2047` of the flattened pixels; the doubled codebook, its squared
lengths and the narrowed codebook are whole at every point.  The two halves of the codebook are its columns up to 511 and
from 512 on.
-/

noncomputable section

namespace Cert.Proof.Ker

open Cert.KernelIdeal Cert.KernelIdeal.Gen Idealize.ShloMosaic Idealize.ShloMosaic.TcCoe

/-- Row `i` of block `t`. -/
def rowOf (t : Fin 4) (i : Fin 2048) : Fin 8192 := ⟨t.val * 2048 + i.val, by omega⟩

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

/-- Block `t` of the rows. -/
theorem block_rows (t : Fin cfg0.N) (i : Fin 2048) (k : Fin 256) :
    iblk m c 0 t (ix2 i k) = V m c main_v1 (ix2 (rowOf t i) k) := by
  blk_simp [iblk]
  refine congrArg (V m c main_v1) ?_
  blk_ext [index0]
  rfl

/-- The doubled codebook, whole at every point. -/
theorem block_doubled (t : Fin cfg0.N) (k : Fin 256) (j : Fin 1024) :
    iblk m c 1 t (ix2 k j) = V m c main_v4 (ix2 k j) := by
  blk_simp [iblk]
  refine congrArg (V m c main_v4) ?_
  blk_ext [index1]

/-- The narrowed codebook, whole at every point. -/
theorem block_narrow (t : Fin cfg0.N) (j : Fin 1024) (k : Fin 256) :
    iblk m c 2 t (ix2 j k) = V m c main_v8 (ix2 j k) := by
  blk_simp [iblk]
  refine congrArg (V m c main_v8) ?_
  blk_ext [index2]

/-- The squared lengths, whole at every point. -/
theorem block_lengths (t : Fin cfg0.N) (j : Fin 1024) :
    iblk m c 3 t (ix2 0 j) = V m c main_v7 (ix2 0 j) := by
  blk_simp [iblk]
  refine congrArg (V m c main_v7) ?_
  blk_ext [index3]

/-! ## The arrays the kernel reads -/

theorem V_rows : V m c main_v1 = rows (F := Ideal) (m ((c : Thread nD τ).loc main_arg0)) := head_rows (fun b => m (c, b))
theorem V_doubled : V m c main_v4 = doubled (F := Ideal) (m ((c : Thread nD τ).loc main_arg1)) := head_doubled (fun b => m (c, b))
theorem V_lengths : V m c main_v7 = lengths (F := Ideal) (m ((c : Thread nD τ).loc main_arg1)) := head_lengths (fun b => m (c, b))
theorem V_narrow : V m c main_v8 = narrow (F := Ideal) (m ((c : Thread nD τ).loc main_arg1)) := head_narrow (fun b => m (c, b))

theorem doubled_at (e : FVec Ideal S1024x256 .f32) (k : Fin 256) (j : Fin 1024) :
    doubled e (ix2 k j) = (e (ix2 j k) : EReal) * ((2 : ℝ) : EReal) := by
  unfold doubled
  simp only [pointwise, word_two]

theorem lengths_at (e : FVec Ideal S1024x256 .f32) (j : Fin 1024) :
    lengths e (ix2 0 j) = ∑ k : Fin 256, (e (ix2 j k) : EReal) * e (ix2 j k) := by
  unfold lengths
  simp only [pointwise, zero_add]
  rfl

/-! ## A load of one half of the codebook -/

theorem load_low (x : Vec Ideal S256x1024 .f32) (k : Fin 256) (j : Fin 512) :
    View.ld x r0_1 (ix2 k j) = x (ix2 k (Fin.castAdd 512 j)) := by
  refine View.ld_unit_apply_of x _ _ _ _ _ fun a => ?_
  fin_cases a <;> simp

theorem load_high (x : Vec Ideal S256x1024 .f32) (k : Fin 256) (j : Fin 512) :
    View.ld x r0_3 (ix2 k j) = x (ix2 k (Fin.natAdd 512 j)) := by
  refine View.ld_unit_apply_of x _ _ _ _ _ fun a => ?_
  fin_cases a <;> simp [Nat.add_comm]

theorem load_low_len (x : Vec Ideal S1x1024 .f32) (j : Fin 512) :
    View.ld x r0_2 (ix2 0 j) = x (ix2 0 (Fin.castAdd 512 j)) := by
  refine View.ld_unit_apply_of x _ _ _ _ _ fun a => ?_
  fin_cases a <;> simp

theorem load_high_len (x : Vec Ideal S1x1024 .f32) (j : Fin 512) :
    View.ld x r0_4 (ix2 0 j) = x (ix2 0 (Fin.natAdd 512 j)) := by
  refine View.ld_unit_apply_of x _ _ _ _ _ fun a => ?_
  fin_cases a <;> simp [Nat.add_comm]

end Cert.Proof.Ker

end
-- ==== Proof.KerArray.lean ====
module

public import proofs.«01_k».proof.Proof.KerLoad
@[expose] public section

/-!
# What the kernel's result arrays hold

With real pixels `xr`, a real codebook `er`, and for every row `r` the number `nr r` of the first nearest entry: the
first result array holds the nearest entries, the second their numbers, and the third, per block, the sum of the squared
distances over the rows of the block.
-/

noncomputable section

namespace Cert.Proof.Ker

open Cert.KernelIdeal Cert.KernelIdeal.Gen Idealize.ShloMosaic Idealize.ShloMosaic.TcCoe

variable (m : (ℓ : Loc nD τ sig) → Buf (Elt Ideal) ℓ) (c : Dev nD)
  (z : FVec Ideal S8x256x32x32 .f32) (e : FVec Ideal S1024x256 .f32)
  (hz : m ((c : Thread nD τ).loc main_arg0) = z) (he : m ((c : Thread nD τ).loc main_arg1) = e)
  (xr : Fin 8192 → Fin 256 → ℝ) (er : Fin 1024 → Fin 256 → ℝ)
  (hx : ∀ r k, rows z (ix2 r k) = ((xr r k : ℝ) : EReal)) (hr : ∀ j k, e (ix2 j k) = ((er j k : ℝ) : EReal))
  (nr : Fin 8192 → Fin 1024) (hn : ∀ r, First (fun j => ((Real.sqrt (sqDist (xr r) (er j)) : ℝ) : EReal)) (nr r))

include hz hx in
/-- The loaded rows of block `t`. -/
theorem in_rows (t : Fin cfg0.N) (i : Fin 2048) (k : Fin 256) :
    View.ld (iblk m c 0 t) r0_0 (ix2 i k) = ((xr (rowOf t i) k : ℝ) : EReal) := by
  have h : View.ld (iblk m c 0 t) r0_0 = iblk m c 0 t :=
    View.ld_unit_lit (S := S2048x256) inb_S2048x256_S2048x256_0_0 _ (by decide)
  rw [h, block_rows, V_rows, hz, hx]

include he hr in
/-- The doubled codebook. -/
theorem in_doubled (t : Fin cfg0.N) (k : Fin 256) (j : Fin 1024) :
    iblk m c 1 t (ix2 k j) = ((er j k : ℝ) : EReal) * ((2 : ℝ) : EReal) := by
  rw [block_doubled, V_doubled, he, doubled_at, hr]

include he hr in
/-- The squared lengths. -/
theorem in_lengths (t : Fin cfg0.N) (j : Fin 1024) :
    @Eq EReal (iblk m c 3 t (ix2 0 j)) (∑ k, ((er j k : ℝ) : EReal) * ((er j k : ℝ) : EReal)) := by
  rw [block_lengths, V_lengths, he, lengths_at]
  exact Finset.sum_congr rfl fun k _ => by rw [hr]

include he in
/-- The narrowed codebook is the codebook. -/
theorem in_narrow (t : Fin cfg0.N) (j : Fin 1024) (k : Fin 256) :
    iblk m c 2 t (ix2 j k) = e (ix2 j k) := by
  rw [block_narrow, V_narrow, he]
  rfl

include hz he hx hr hn in
/-- The number kept at row `i` of block `t`. -/
theorem number (t : Fin cfg0.N) (i : Fin 2048) :
    k0_pay3 (k0_pay14 (iblk m c 0 t) (iblk m c 1 t) (iblk m c 2 t) (iblk m c 3 t))
      (k0_pay15 (iblk m c 0 t) (iblk m c 1 t) (iblk m c 2 t) (iblk m c 3 t))
      (k0_pay16 (iblk m c 0 t) (iblk m c 1 t) (iblk m c 2 t) (iblk m c 3 t))
      (k0_pay17 (iblk m c 0 t) (iblk m c 1 t) (iblk m c 2 t) (iblk m c 3 t)) (ix2 i 0)
      = (((nr (rowOf t i) : ℕ) : ℝ) : EReal) :=
  kept_at (View.ld (iblk m c 0 t) r0_0) (View.ld (iblk m c 1 t) r0_1) (View.ld (iblk m c 1 t) r0_3)
    (View.ld (iblk m c 3 t) r0_2) (View.ld (iblk m c 3 t) r0_4) i (xr (rowOf t i)) er
    (in_rows m c z hz xr hx t i)
    (fun k j => (load_low _ k j).trans (in_doubled m c e he er hr t k _))
    (fun j => (load_low_len _ j).trans (in_lengths m c e he er hr t _))
    (fun k j => (load_high _ k j).trans (in_doubled m c e he er hr t k _))
    (fun j => (load_high_len _ j).trans (in_lengths m c e he er hr t _))
    (nr (rowOf t i)) (hn (rowOf t i))

include hz he hx hr hn in
/-- The least distance at row `i` of block `t`. -/
theorem nearest (t : Fin cfg0.N) (i : Fin 2048) :
    min (k0_pay15 (iblk m c 0 t) (iblk m c 1 t) (iblk m c 2 t) (iblk m c 3 t) (ix2 i 0) : EReal)
      (k0_pay2 (k0_pay17 (iblk m c 0 t) (iblk m c 1 t) (iblk m c 2 t) (iblk m c 3 t)) (ix2 i 0))
      = ((Real.sqrt (sqDist (xr (rowOf t i)) (er (nr (rowOf t i)))) : ℝ) : EReal) :=
  nearest_at (View.ld (iblk m c 0 t) r0_0) (View.ld (iblk m c 1 t) r0_1) (View.ld (iblk m c 1 t) r0_3)
    (View.ld (iblk m c 3 t) r0_2) (View.ld (iblk m c 3 t) r0_4) i (xr (rowOf t i)) er
    (in_rows m c z hz xr hx t i)
    (fun k j => (load_low _ k j).trans (in_doubled m c e he er hr t k _))
    (fun j => (load_low_len _ j).trans (in_lengths m c e he er hr t _))
    (fun k j => (load_high _ k j).trans (in_doubled m c e he er hr t k _))
    (fun j => (load_high_len _ j).trans (in_lengths m c e he er hr t _))
    (nr (rowOf t i)) (hn (rowOf t i))

/-! ## The arrays -/

/-- The nearest entries, row by row. -/
def entries (e : FVec Ideal S1024x256 .f32) (nr : Fin 8192 → Fin 1024) : FVec Ideal S8192x256 .f32 :=
  fun i => e (ix2 (nr (i 0)) (i 1))

/-- Their numbers, block by block. -/
def numbers (nr : Fin 8192 → Fin 1024) : IVec S4x1x2048 32 :=
  fun i => BitVec.ofNat 32 (nr (rowOf (i 0) (i 2)))

/-- The squared distances summed over each block's rows. -/
def added (xr : Fin 8192 → Fin 256 → ℝ) (er : Fin 1024 → Fin 256 → ℝ) (nr : Fin 8192 → Fin 1024) :
    FVec Ideal S4x1x128 .f32 :=
  fun i => ∑ r : Fin 2048, ((Real.sqrt (sqDist (xr (rowOf (i 0) r)) (er (nr (rowOf (i 0) r)))) : ℝ) : EReal)
    * ((Real.sqrt (sqDist (xr (rowOf (i 0) r)) (er (nr (rowOf (i 0) r)))) : ℝ) : EReal)

/-- Where row `i` of block `t` lies in the first result array. -/
theorem place4 (t : Fin cfg0.N) (i : Fin 2048) (k : Fin 256) :
    ((View.whole main_v9_0).slice (win0_4.rect t)).emb (ix2 i k) = ix2 (rowOf t i) k := by
  blk_ext [index4]
  rfl

/-- Where column `i` of block `t` lies in the second result array. -/
theorem place5 (t : Fin cfg0.N) (i : Fin 2048) :
    ((View.whole main_v9_1).slice (win0_5.rect t)).emb (ix3 (0 : Fin 1) (0 : Fin 1) i) = ix3 t (0 : Fin 1) i := by
  blk_ext [index5]

/-- Where column `i` of block `t` lies in the third result array. -/
theorem place6 (t : Fin cfg0.N) (i : Fin 128) :
    ((View.whole main_v9_2).slice (win0_6.rect t)).emb (ix3 (0 : Fin 1) (0 : Fin 1) i) = ix3 t (0 : Fin 1) i := by
  blk_ext [index6]

include hz he hx hr hn in
/-- The row written for row `i` of block `t`. -/
theorem out_entries (t : Fin cfg0.N) (i : Fin 2048) (k : Fin 256) :
    k0_pay4 (k0_pay14 (iblk m c 0 t) (iblk m c 1 t) (iblk m c 2 t) (iblk m c 3 t))
      (k0_pay15 (iblk m c 0 t) (iblk m c 1 t) (iblk m c 2 t) (iblk m c 3 t))
      (k0_pay16 (iblk m c 0 t) (iblk m c 1 t) (iblk m c 2 t) (iblk m c 3 t))
      (k0_pay17 (iblk m c 0 t) (iblk m c 1 t) (iblk m c 2 t) (iblk m c 3 t)) (iblk m c 2 t) (ix2 i k)
      = entries e nr (ix2 (rowOf t i) k) := by
  have h := number m c z e hz he xr er hx hr nr hn t i
  generalize k0_pay14 (iblk m c 0 t) (iblk m c 1 t) (iblk m c 2 t) (iblk m c 3 t) = v6 at *
  generalize k0_pay15 (iblk m c 0 t) (iblk m c 1 t) (iblk m c 2 t) (iblk m c 3 t) = v20 at *
  generalize k0_pay16 (iblk m c 0 t) (iblk m c 1 t) (iblk m c 2 t) (iblk m c 3 t) = v28 at *
  generalize k0_pay17 (iblk m c 0 t) (iblk m c 1 t) (iblk m c 2 t) (iblk m c 3 t) = v39 at *
  exact (row_at (iblk m c 2 t) v6 v20 v28 v39 i (nr (rowOf t i)) h k).trans
    (in_narrow m c e he t (nr (rowOf t i)) k)

include hz he hx hr hn in
/-- The number written for row `i` of block `t`. -/
theorem out_numbers (t : Fin cfg0.N) (i : Fin 2048) :
    k0_pay5 (k0_pay14 (iblk m c 0 t) (iblk m c 1 t) (iblk m c 2 t) (iblk m c 3 t))
      (k0_pay15 (iblk m c 0 t) (iblk m c 1 t) (iblk m c 2 t) (iblk m c 3 t))
      (k0_pay16 (iblk m c 0 t) (iblk m c 1 t) (iblk m c 2 t) (iblk m c 3 t))
      (k0_pay17 (iblk m c 0 t) (iblk m c 1 t) (iblk m c 2 t) (iblk m c 3 t)) (ix3 (0 : Fin 1) (0 : Fin 1) i)
      = numbers nr (ix3 t (0 : Fin 1) i) := by
  have h := number m c z e hz he xr er hx hr nr hn t i
  generalize k0_pay14 (iblk m c 0 t) (iblk m c 1 t) (iblk m c 2 t) (iblk m c 3 t) = v6 at *
  generalize k0_pay15 (iblk m c 0 t) (iblk m c 1 t) (iblk m c 2 t) (iblk m c 3 t) = v20 at *
  generalize k0_pay16 (iblk m c 0 t) (iblk m c 1 t) (iblk m c 2 t) (iblk m c 3 t) = v28 at *
  generalize k0_pay17 (iblk m c 0 t) (iblk m c 1 t) (iblk m c 2 t) (iblk m c 3 t) = v39 at *
  exact index_at v6 v20 v28 v39 i (nr (rowOf t i)) (nr (rowOf t i)).isLt h

include hz he hx hr hn in
/-- What block `t` adds to the loss. -/
theorem out_added (t : Fin cfg0.N) (i : Fin 128) :
    k0_pay6 (k0_pay15 (iblk m c 0 t) (iblk m c 1 t) (iblk m c 2 t) (iblk m c 3 t))
      (k0_pay17 (iblk m c 0 t) (iblk m c 1 t) (iblk m c 2 t) (iblk m c 3 t)) (ix3 (0 : Fin 1) (0 : Fin 1) i)
      = added xr er nr (ix3 t (0 : Fin 1) i) := by
  have h := nearest m c z e hz he xr er hx hr nr hn t
  generalize k0_pay15 (iblk m c 0 t) (iblk m c 1 t) (iblk m c 2 t) (iblk m c 3 t) = v20 at *
  generalize k0_pay17 (iblk m c 0 t) (iblk m c 1 t) (iblk m c 2 t) (iblk m c 3 t) = v39 at *
  refine (added_at v20 v39 i).trans (Finset.sum_congr rfl fun r _ => ?_)
  rw [h r]
  rfl

include hz he hx hr hn in
/-- The first result array holds the nearest entries. -/
theorem array_entries : (dats m 0 c).arrAt 4 cfg0.N = entries e nr := by
  refine (dats m 0 c).arrAt_eq_of_covers 4 _ (by decide +kernel) fun t hf y => ?_
  blk_simp
  rw [after0_4]
  frame_out
  obtain ⟨i, k, rfl⟩ : ∃ (i : Fin 2048) (k : Fin 256), y = ix2 i k := ⟨y 0, y 1, eq_ix2 y⟩
  exact (out_entries m c z e hz he xr er hx hr nr hn t i k).trans (congrArg (entries e nr) (place4 t i k).symm)

include hz he hx hr hn in
/-- The second result array holds their numbers. -/
theorem array_numbers : (dats m 0 c).arrAt 5 cfg0.N = numbers nr := by
  refine (dats m 0 c).arrAt_eq_of_covers 5 _ (by decide +kernel) fun t hf y => ?_
  blk_simp
  rw [after0_5]
  frame_out
  obtain ⟨a, b, i, rfl⟩ : ∃ (a b : Fin 1) (i : Fin 2048), y = ix3 a b i := ⟨y 0, y 1, y 2, eq_ix3 y⟩
  obtain rfl : a = 0 := Subsingleton.elim _ _
  obtain rfl : b = 0 := Subsingleton.elim _ _
  exact (out_numbers m c z e hz he xr er hx hr nr hn t i).trans (congrArg (numbers nr) (place5 t i).symm)

include hz he hx hr hn in
/-- The third result array holds, per block, the sum of the squared distances. -/
theorem array_added : (dats m 0 c).arrAt 6 cfg0.N = added xr er nr := by
  refine (dats m 0 c).arrAt_eq_of_covers 6 _ (by decide +kernel) fun t hf y => ?_
  blk_simp
  rw [after0_6]
  frame_out
  obtain ⟨a, b, i, rfl⟩ : ∃ (a b : Fin 1) (i : Fin 128), y = ix3 a b i := ⟨y 0, y 1, y 2, eq_ix3 y⟩
  obtain rfl : a = 0 := Subsingleton.elim _ _
  obtain rfl : b = 0 := Subsingleton.elim _ _
  exact (out_added m c z e hz he xr er hx hr nr hn t i).trans (congrArg (added xr er nr) (place6 t i).symm)

end Cert.Proof.Ker

end
-- ==== Proof.RefNear.lean ====
module

public import proofs.«01_k».proof.Proof.RefRun
public import proofs.«01_k».proof.Proof.FirstMin
public import Idealize.ShloMosaic.PureOps.Ideal.Laws
public import Idealize.ShloMosaic.Lib.ValueIdx
public import Idealize.ShloMosaic.Lib.Affine

/-!
# The index the reference finds

The reference walks along a row of distances with a pair of a value and an index and keeps the smaller value, on equal
values the smaller index.  Over the extended reals this ends at the first index of the smallest distance.
-/

@[expose] public section

noncomputable section

namespace Cert.Proof.Ref

open Cert.ReferenceIdeal Cert.ReferenceIdeal.Gen Idealize.ShloMosaic

/-- A word with its top bit clear, read signed, is the number it was made of. -/
theorem toInt_small (p : ℕ) (h : p < 2147483648) : (BitVec.ofNat 32 p).toInt = p := by
  have e : (BitVec.ofNat 32 p).toNat = p := by
    rw [BitVec.toNat_ofNat]; exact Nat.mod_eq_of_lt (by omega)
  rw [BitVec.toInt_eq_toNat_of_lt (by rw [e]; omega), e]

/-- One step of the walk, when the held index is the smaller one: the new pair is taken where its value is strictly
    smaller. -/
theorem step (x y : EReal) (p q : ℕ) (hpq : p < q) (hq : q < 2147483648) :
    reducer_argmin_f32_i32 (F := Ideal) (x, BitVec.ofNat 32 p) (y, BitVec.ofNat 32 q)
      = if y < x then (y, BitVec.ofNat 32 q) else (x, BitVec.ofNat 32 p) := by
  have hs : IntOp.cmpi .slt (BitVec.ofNat 32 p) (BitVec.ofNat 32 q) = 1#1 := by
    rw [IntOp.cmpi_slt, toInt_small p (by omega), toInt_small q hq]; exact_mod_cast hpq
  simp only [reducer_argmin_f32_i32, hs]
  have hne : FloatOps.cmpf (F := Ideal) (φ := .f32) .une x x = 0#1 := by
    show BitVec.ofBool (decide (x ≠ x)) = 0#1
    simp
  rw [hne]
  have hlt : FloatOps.cmpf (F := Ideal) (φ := .f32) .olt x y = BitVec.ofBool (decide (x < y)) := rfl
  have heq : FloatOps.cmpf (F := Ideal) (φ := .f32) .oeq x y = BitVec.ofBool (decide (x = y)) := rfl
  rw [hlt, heq]
  rcases lt_trichotomy x y with h | h | h
  · rw [if_neg (not_lt.mpr h.le), decide_eq_true h, decide_eq_false h.ne]; rfl
  · rw [h, if_neg (lt_irrefl y), decide_eq_false (lt_irrefl y), decide_eq_true rfl]; rfl
  · rw [if_pos h, decide_eq_false (not_lt.mpr h.le), decide_eq_false h.ne']; rfl

/-- The walk over columns in increasing order, from the pair of a column before them, ends at the pair of the column the
    index-only walk ends at. -/
theorem walk {n : ℕ} (hn : n ≤ 2147483648) (d : Fin n → EReal) (l : List (Fin n)) (a : Fin n) (hl : (a :: l).Pairwise (· < ·)) :
    (l.map fun k => (d k, BitVec.ofNat 32 k.val)).foldl (reducer_argmin_f32_i32 (F := Ideal)) (d a, BitVec.ofNat 32 a.val)
      = (d (l.foldl (fun s k => if d k < d s then k else s) a),
          BitVec.ofNat 32 (l.foldl (fun s k => if d k < d s then k else s) a).val) := by
  induction l generalizing a with
  | nil => rfl
  | cons h l ih =>
    obtain ⟨hah, hl'⟩ := List.pairwise_cons.mp hl
    rw [List.map_cons, List.foldl_cons, List.foldl_cons, step _ _ _ _ (hah h (by simp)) (lt_of_lt_of_le h.2 hn)]
    by_cases hd : d h < d a
    · rw [if_pos hd, if_pos hd]; exact ih h hl'
    · rw [if_neg hd, if_neg hd]
      exact ih a (List.pairwise_cons.mpr ⟨fun k hk => hah k (List.mem_cons_of_mem _ hk), (List.pairwise_cons.mp hl').2⟩)

/-- The walk over every column, in increasing order, from the top value with index `0`, ends at the first index of the
    smallest value, when no value is the top. -/
theorem walk_all {n : ℕ} (hn : n ≤ 2147483648) (d : Fin n → EReal) (hd : ∀ k, d k < ⊤) (j : Fin n) (hj : First d j)
    (l : List (Fin n)) (hl : l.Pairwise (· < ·)) (hall : ∀ k, k ∈ l) :
    ((l.map fun k => (d k, BitVec.ofNat 32 k.val)).foldl (reducer_argmin_f32_i32 (F := Ideal)) (⊤, 0#32)).2
      = BitVec.ofNat 32 j.val := by
  cases l with
  | nil => exact absurd (hall j) (by simp)
  | cons a l =>
    have h0 : reducer_argmin_f32_i32 (F := Ideal) (⊤, 0#32) (d a, BitVec.ofNat 32 a.val) = (d a, BitVec.ofNat 32 a.val) := by
      have hlt : FloatOps.cmpf (F := Ideal) (φ := .f32) .olt (⊤ : EReal) (d a) = 0#1 := by
        show BitVec.ofBool (decide ((⊤ : EReal) < d a)) = 0#1
        rw [decide_eq_false (not_lt.mpr le_top)]; rfl
      have heq : FloatOps.cmpf (F := Ideal) (φ := .f32) .oeq (⊤ : EReal) (d a) = 0#1 := by
        show BitVec.ofBool (decide ((⊤ : EReal) = d a)) = 0#1
        rw [decide_eq_false (hd a).ne']; rfl
      have hne : FloatOps.cmpf (F := Ideal) (φ := .f32) .une (⊤ : EReal) (⊤ : EReal) = 0#1 := by
        show BitVec.ofBool (decide ((⊤ : EReal) ≠ ⊤)) = 0#1
        simp
      simp only [reducer_argmin_f32_i32]
      rw [hlt, heq, hne]
      have : ∀ b : BitVec 1, IntOp.ori (IntOp.ori 0#1 0#1) (IntOp.andi 0#1 b) = 0#1 := by decide
      rw [this]; rfl
    rw [List.map_cons, List.foldl_cons, h0, walk hn d l a hl]
    obtain ⟨b, hb, e, h1, h2⟩ := First.pass d l a hl
    rw [e]
    have : First d b := ⟨fun k => h1 k (hall k), fun k hk => h2 k (hall k) hk⟩
    rw [this.unique hj]

/-- The walk over the entries of row `r` of a table, in the order they are stored, with their column numbers. -/
theorem walk_row {R C : ℕ} (hC : C ≤ 2147483648) (d : (⟨2, ![R, C]⟩ : Shape).Idx → EReal)
    (y : (⟨2, ![R, C]⟩ : Shape).Idx → BitVec 32) (hy : ∀ r k, y (ix2 r k) = BitVec.ofNat 32 k.val)
    (h : (⟨2, ![R, C]⟩ : Shape).ReducesTo [1] ⟨1, ![R]⟩) (r : Fin R) (hd : ∀ k : Fin C, d (ix2 r k) < ⊤) (j : Fin C)
    (hj : First (fun k : Fin C => d (ix2 r k)) j) :
    ((Host.argReduceFiber d y h (ix1 r)).foldl (reducer_argmin_f32_i32 (F := Ideal)) (⊤, 0#32)).2
      = BitVec.ofNat 32 j.val := by
  rw [Host.argReduceFiber]
  let P := (List.finRange (⟨2, ![R, C]⟩ : Shape).numel).filter fun n =>
    h.drop ((⟨2, ![R, C]⟩ : Shape).rowMajor.symm n) = ix1 r
  let col : Fin (⟨2, ![R, C]⟩ : Shape).numel → Fin C := fun n => ((⟨2, ![R, C]⟩ : Shape).rowMajor.symm n) 1
  have hP : ∀ n ∈ P, (⟨2, ![R, C]⟩ : Shape).rowMajor.symm n = ix2 r (col n) := by
    intro n hn
    obtain ⟨k, hk⟩ := (Shape.ReducesTo.fiber_r2_a1 h (ix1 r) _).mp (of_decide_eq_true (List.mem_filter.mp hn).2)
    have : col n = k := by
      show ((⟨2, ![R, C]⟩ : Shape).rowMajor.symm n) 1 = k
      rw [← hk]; rfl
    rw [this]; exact hk.symm
  have hval : ∀ n ∈ P, n.val = r.val * C + (col n).val := by
    intro n hn
    have e := Shape.rowMajor_val_two (d := ![R, C]) (ix2 r (col n))
    rw [← hP n hn, Equiv.apply_symm_apply, hP n hn] at e
    exact e
  have hmap : (P.map fun n => (d ((⟨2, ![R, C]⟩ : Shape).rowMajor.symm n), y ((⟨2, ![R, C]⟩ : Shape).rowMajor.symm n)))
      = (P.map col).map fun k => (d (ix2 r k), BitVec.ofNat 32 k.val) := by
    rw [List.map_map]
    refine List.map_congr_left fun n hn => ?_
    rw [hP n hn, hy]; rfl
  have hsort : (P.map col).Pairwise (· < ·) := by
    rw [List.pairwise_map]
    refine List.Pairwise.imp_of_mem (R := (· < ·)) (fun {a b} ha hb hab => ?_) ((List.pairwise_lt_finRange _).filter _)
    have h1 := hval a ha
    have h2 := hval b hb
    rw [Fin.lt_def] at hab ⊢
    omega
  have hall : ∀ k, k ∈ P.map col := by
    intro k
    refine List.mem_map.mpr ⟨(⟨2, ![R, C]⟩ : Shape).rowMajor (ix2 r k), List.mem_filter.mpr ⟨List.mem_finRange _, ?_⟩, ?_⟩
    · refine decide_eq_true ?_
      rw [Equiv.symm_apply_apply]
      exact (Shape.ReducesTo.fiber_r2_a1 h (ix1 r) _).mpr ⟨k, rfl⟩
    · show ((⟨2, ![R, C]⟩ : Shape).rowMajor.symm _) 1 = k
      rw [Equiv.symm_apply_apply]; rfl
  have := walk_all hC (fun k : Fin C => d (ix2 r k)) hd j hj (P.map col) hsort hall
  rw [← hmap] at this
  exact this

/-- The reduction of a table of values and column numbers along its rows, from the top value and index `0`. -/
theorem reduce_row {R C : ℕ} {u : Shape} (hC : C ≤ 2147483648) (d : FVec Ideal ⟨2, ![R, C]⟩ .f32)
    (y : IVec ⟨2, ![R, C]⟩ 32) (hy : ∀ r k, y (ix2 r k) = BitVec.ofNat 32 k.val) (ix : FVec Ideal u .f32) (iy : IVec u 32)
    (h : (⟨2, ![R, C]⟩ : Shape).ReducesTo [1] ⟨1, ![R]⟩) (hu : 0 < u.numel) (hix : ix (Shape.Idx.first hu) = (⊤ : EReal))
    (hiy : iy (Shape.Idx.first hu) = 0#32) (r : Fin R) (hd : ∀ k : Fin C, d (ix2 r k) < (⊤ : EReal)) (j : Fin C)
    (hj : First (fun k : Fin C => d (ix2 r k)) j) :
    (Host.argReduce (reducer_argmin_f32_i32 (F := Ideal)) d y ix iy h hu (ix1 r)).2 = BitVec.ofNat 32 j.val := by
  rw [Ideal.argReduce_eq_reduce2, Host.reduce2_eq_foldl_fiber, hix, hiy]
  exact walk_row hC d y hy h r hd j hj

/-- The initial value of the search is the top. -/
theorem top_word (i : S_.Idx) : constant (F := Ideal) S_ .f32 0x7F800000#32 i = (⊤ : EReal) := by
  show Ideal.ofBits .f32 0x7F800000#32 = ⊤
  simp [Ideal.ofBits, Ideal.ieee]

/-- The table of column numbers. -/
theorem col_word (r : Fin 8192) (k : Fin 1024) : iotaInDim S8192x1024 32 1 (ix2 r k) = BitVec.ofNat 32 k.val := rfl

/-- The initial index of the search is `0`. -/
theorem zero_word (i : S_.Idx) : constantI S_ 32 0#32 i = 0#32 := rfl

/-- The search along the rows of the table of distances ends at the first index of the smallest entry. -/
theorem search_at (d : FVec Ideal S8192x1024 .f32) (r : Fin 8192) (hd : ∀ k : Fin 1024, d (ix2 r k) < (⊤ : EReal))
    (j : Fin 1024) (hj : First (fun k : Fin 1024 => d (ix2 r k)) j) :
    (Host.argReduce (reducer_argmin_f32_i32 (F := Ideal)) d (iotaInDim S8192x1024 32 1) (constant S_ .f32 0x7F800000#32)
      (constantI S_ 32 0#32) reducesTo_S8192x1024_S8192_d1 h_S_ (ix1 r)).2 = BitVec.ofNat 32 j.val :=
  reduce_row (by decide) d _ col_word _ _ reducesTo_S8192x1024_S8192_d1 h_S_ (top_word _) (zero_word _) r hd j hj

/-- The table of indices, as the function of a row that it is. -/
theorem near_eq {F : FTy → Type} [FloatOps F] (d : FVec F S8192x1024 .f32) : near d = fun j =>
    (Host.argReduce reducer_argmin_f32_i32 d (iotaInDim S8192x1024 32 1) (constant S_ .f32 0x7F800000#32)
      (constantI S_ 32 0#32) reducesTo_S8192x1024_S8192_d1 h_S_ j).2 := rfl

/-- Row by row, the reference's index is the first index of the smallest entry. -/
theorem near_at (d : FVec Ideal S8192x1024 .f32) (r : Fin 8192) (hd : ∀ k : Fin 1024, d (ix2 r k) < (⊤ : EReal))
    (j : Fin 1024) (hj : First (fun k : Fin 1024 => d (ix2 r k)) j) : near (F := Ideal) d (ix1 r) = BitVec.ofNat 32 j.val :=
  (congrFun (near_eq d) (ix1 r)).trans (search_at d r hd j hj)

end Cert.Proof.Ref

end
-- ==== Proof.RefValue.lean ====
module

public import proofs.«01_k».proof.Proof.RefNear
public import proofs.«01_k».proof.Proof.Distance
public import proofs.«01_k».proof.Proof.Literals
public import Idealize.ShloMosaic.Lib.Pointwise
public import Idealize.ShloMosaic.Lib.Routing.Ops

/-!
# What the reference computes, entry by entry

Over real rows: the table of distances, the index of the nearest codebook row, the row taken, the quantized row and the
loss.
-/

@[expose] public section

noncomputable section

namespace Cert.Proof.Ref

open Cert.ReferenceIdeal Cert.ReferenceIdeal.Gen Idealize.ShloMosaic

variable (x q : FVec Ideal S8192x256 .f32) (e : FVec Ideal S1024x256 .f32)

/-- The table of distances holds the distance of row `r` to codebook row `k`. -/
theorem dist_at {xr : Fin 8192 → Fin 256 → ℝ} {er : Fin 1024 → Fin 256 → ℝ} (hx : ∀ r c, x (ix2 r c) = ((xr r c : ℝ) : EReal))
    (he : ∀ k c, e (ix2 k c) = ((er k c : ℝ) : EReal)) (r : Fin 8192) (k : Fin 1024) :
    dist x e (ix2 r k) = ((Real.sqrt (sqDist (xr r) (er k)) : ℝ) : EReal) := by
  unfold dist
  simp only [pointwise, word_two, zero_add]
  show Ideal.sqrt (max ((∑ c, x (ix2 r c) * x (ix2 r c)) + (∑ c, e (ix2 k c) * e (ix2 k c))
    - ((2 : ℝ) : EReal) * ∑ c, x (ix2 r c) * e (ix2 k c)) 0) = _
  simp only [hx, he]
  exact root_outer (xr r) (er k)

/-- An index of the codebook is read from where it stands. -/
theorem wrapped_at (i : IVec S8192 32) (r : Fin 8192) (k : Fin 1024) (hi : i (ix1 r) = BitVec.ofNat 32 k.val) :
    wrapped i (ix2 r 0) = BitVec.ofNat 32 k.val := by
  have h0 : IntOp.cmpi .slt (BitVec.ofNat 32 k.val) 0#32 = 0#1 := by
    apply ValueIdx.eq_zero_of_ne_one
    rw [IntOp.cmpi_slt, toInt_small _ (by omega)]
    exact not_lt.mpr (by simp)
  unfold wrapped
  simp only [pointwise]
  show Scalar.select (IntOp.cmpi .slt (i (ix1 r)) 0#32) (IntOp.addi (i (ix1 r)) 1024#32) (i (ix1 r)) = _
  rw [hi, h0]; rfl

/-- The row taken is the codebook row at the index. -/
theorem taken_at (i : IVec S8192 32) (r : Fin 8192) (k : Fin 1024) (hi : i (ix1 r) = BitVec.ofNat 32 k.val) (c : Fin 256) :
    taken e i (ix2 r c) = e (ix2 k c) := by
  have hw := wrapped_at i r k hi
  have h0 : IntOp.cmpi .sge (BitVec.ofNat 32 k.val) 0#32 = 1#1 := by
    rw [IntOp.cmpi_sge, toInt_small k.val (by omega)]
    exact Int.natCast_nonneg _
  have h1 : IntOp.cmpi .sle (BitVec.ofNat 32 k.val) 1023#32 = 1#1 := by
    rw [IntOp.cmpi_sle, toInt_small _ (by omega)]
    show (k.val : ℤ) ≤ 1023
    omega
  unfold taken inside
  simp only [pointwise, Finset.univ_unique, Finset.fold_singleton]
  show Scalar.select
    (IntOp.andi (IntOp.andi (IntOp.cmpi .sge (wrapped i (ix2 r 0)) 0#32) (IntOp.cmpi .sle (wrapped i (ix2 r 0)) 1023#32)) 1#1)
    (Host.gather gather_S1024x256_S8192x1_S8192x256_1_0_n_n_0_1_1256 e (wrapped i) (ix2 r c)) _ = _
  rw [hw, h0, h1]
  exact Routing.gather_row gather_S1024x256_S8192x1_S8192x256_1_0_n_n_0_1_1256 rfl rfl rfl rfl rfl e (wrapped i) r c k hw
    (by decide)

/-- The mean square, over real rows: the sum of all squared differences over their number. -/
theorem meanSq_at (i : S_.Idx) : meanSq x q i
    = Ideal.div (∑ r : Fin 8192, ∑ c : Fin 256, (x (ix2 r c) - q (ix2 r c)) * (x (ix2 r c) - q (ix2 r c))) ((2097152 : ℝ) : EReal) := by
  unfold meanSq
  simp only [pointwise, word_count, zero_add]

/-- The loss is the mean square and a quarter of it. -/
theorem loss_at (i : S_.Idx) : loss x q i = meanSq x q i + ((1 / 4 : ℝ) : EReal) * meanSq x q i := by
  unfold loss
  simp only [pointwise, word_quarter]

/-- The first index of the smallest distance, for real rows. -/
theorem idx_at (z : FVec Ideal S8x256x32x32 .f32) {xr : Fin 8192 → Fin 256 → ℝ} {er : Fin 1024 → Fin 256 → ℝ}
    (hx : ∀ r c, flat z (ix2 r c) = ((xr r c : ℝ) : EReal)) (he : ∀ k c, e (ix2 k c) = ((er k c : ℝ) : EReal)) (r : Fin 8192)
    (j : Fin 1024) (hj : First (fun k => ((Real.sqrt (sqDist (xr r) (er k)) : ℝ) : EReal)) j) :
    idx z e (ix1 r) = BitVec.ofNat 32 j.val := by
  unfold idx
  refine near_at _ r (fun k => ?_) j ?_
  · rw [dist_at _ _ hx he]; exact EReal.coe_lt_top _
  · have : (fun k : Fin 1024 => dist (flat z) e (ix2 r k)) = fun k => ((Real.sqrt (sqDist (xr r) (er k)) : ℝ) : EReal) :=
      funext fun k => dist_at _ _ hx he r k
    rw [this]; exact hj

end Cert.Proof.Ref

end
-- ==== Proof.Equation.lean ====
module

public import proofs.«01_k».proof.Proof.KerArray
public import proofs.«01_k».proof.Proof.RefValue
@[expose] public section

/-!
# The equation

With real pixels `xr` and a real codebook `er`, the kernel's three results are the reference's: the nearest entries,
because a pixel plus the difference of the entry and the pixel is the entry; the loss, because one mean and a quarter of
it is one and a quarter times it; and the indices, because both count the same rows.
-/

noncomputable section

namespace Cert.Proof.Eq

open Idealize.ShloMosaic Cert.KernelIdeal

variable (z : FVec Ideal S8x256x32x32 .f32) (e : FVec Ideal S1024x256 .f32)
  (xr : Fin 8192 → Fin 256 → ℝ) (er : Fin 1024 → Fin 256 → ℝ)
  (hx : ∀ r k, Ref.flat z (ix2 r k) = ((xr r k : ℝ) : EReal)) (hr : ∀ j k, e (ix2 j k) = ((er j k : ℝ) : EReal))
  (nr : Fin 8192 → Fin 1024) (hn : ∀ r, First (fun j => ((Real.sqrt (sqDist (xr r) (er j)) : ℝ) : EReal)) (nr r))

include hx hr hn in
/-- The reference takes, for row `r`, the entry numbered `nr r`. -/
theorem taken_row (r : Fin 8192) (k : Fin 256) : Ref.taken e (Ref.idx z e) (ix2 r k) = ((er (nr r) k : ℝ) : EReal) :=
  (Ref.taken_at e (Ref.idx z e) r (nr r) (Ref.idx_at e z hx hr r (nr r) (hn r)) k).trans (hr _ _)

include hx hr hn in
/-- The first result. -/
theorem eq_quant : Ker.back (Ker.entries e nr) = Ref.quant (Ref.flat z) (Ref.taken e (Ref.idx z e)) := by
  have h : Ker.entries e nr = addf (Ref.flat z) (subf (Ref.taken e (Ref.idx z e)) (Ref.flat z)) := by
    funext i
    obtain ⟨r, k, rfl⟩ : ∃ (r : Fin 8192) (k : Fin 256), i = ix2 r k := ⟨i 0, i 1, eq_ix2 i⟩
    have h1 : addf (Ref.flat z) (subf (Ref.taken e (Ref.idx z e)) (Ref.flat z)) (ix2 r k)
        = (Ref.flat z (ix2 r k) + (Ref.taken e (Ref.idx z e) (ix2 r k) - Ref.flat z (ix2 r k)) : EReal) := rfl
    rw [h1, taken_row z e xr er hx hr nr hn, hx, ← EReal.coe_sub, ← EReal.coe_add, add_sub_cancel]
    exact hr (nr r) k
  exact congrArg (Ker.back (F := Ideal)) h

/-- Row `r` of block `t`, and the sum over all rows block by block. -/
theorem sum_blocks (f : Fin 8192 → ℝ) : ∑ r, f r = ∑ t : Fin 4, ∑ i : Fin 2048, f (Ker.rowOf t i) := by
  rw [← Fintype.sum_prod_type' (f := fun t i => f (Ker.rowOf t i))]
  refine (Fintype.sum_equiv (finProdFinEquiv (m := 4) (n := 2048)) _ _ fun p => ?_).symm
  refine congrArg f (Fin.ext ?_)
  simp [Ker.rowOf, finProdFinEquiv]
  omega

/-- The kernel's loss, read. -/
theorem weighed_at (a : FVec Ideal S4x1x128 .f32) (i : S_.Idx) :
    Ker.weighed a i = ((5 / 4 : ℝ) : EReal) * Ideal.div (∑ t : Fin 4, (a (ix3 t 0 0) : EReal)) ((2097152 : ℝ) : EReal) := by
  unfold Ker.weighed
  simp only [pointwise, word_five_quarters, word_count, zero_add]
  rfl

/-- What block `t` adds, as a real. -/
theorem added_at (t : Fin 4) : Ker.added xr er nr (ix3 t 0 0)
    = ((∑ i : Fin 2048, sqDist (xr (Ker.rowOf t i)) (er (nr (Ker.rowOf t i))) : ℝ) : EReal) := by
  rw [← coe_sum]
  refine Finset.sum_congr rfl fun i _ => ?_
  rw [← EReal.coe_mul, Real.mul_self_sqrt (sqDist_nonneg _ _)]
  rfl

include hx hr hn in
/-- The second result. -/
theorem eq_loss : Ker.weighed (Ker.added xr er nr) = Ref.loss (Ref.flat z) (Ref.taken e (Ref.idx z e)) := by
  funext i
  rw [weighed_at, Ref.loss_at, Ref.meanSq_at]
  have h : (∑ r : Fin 8192, ∑ k : Fin 256, (Ref.flat z (ix2 r k) - Ref.taken e (Ref.idx z e) (ix2 r k))
      * (Ref.flat z (ix2 r k) - Ref.taken e (Ref.idx z e) (ix2 r k)) : EReal)
      = ((∑ r : Fin 8192, sqDist (xr r) (er (nr r)) : ℝ) : EReal) := by
    rw [← coe_sum]
    refine Finset.sum_congr rfl fun r _ => ?_
    rw [sqDist, ← coe_sum]
    refine Finset.sum_congr rfl fun k _ => ?_
    rw [taken_row z e xr er hx hr nr hn, hx, ← EReal.coe_sub, ← EReal.coe_mul, sq]
  rw [h, Finset.sum_congr rfl fun t _ => added_at xr er nr t, coe_sum,
    sum_blocks (fun r => sqDist (xr r) (er (nr r)))]
  generalize (∑ t : Fin 4, ∑ i : Fin 2048, sqDist (xr (Ker.rowOf t i)) (er (nr (Ker.rowOf t i)))) = s
  have d : Ideal.div ((s : ℝ) : EReal) ((2097152 : ℝ) : EReal) = ((s * (2097152 : ℝ)⁻¹ : ℝ) : EReal) := by
    unfold Ideal.div
    rw [if_neg (by norm_num), ← EReal.coe_inv, ← EReal.coe_mul]
  rw [d, ← EReal.coe_mul, ← EReal.coe_mul, ← EReal.coe_add]
  exact congrArg _ (by ring)

include hx hr hn in
/-- The third result. -/
theorem eq_grid : Ker.gridded (Ker.numbers nr) = Ref.grid (Ref.idx z e) := by
  funext y
  obtain ⟨p, q, s, rfl⟩ : ∃ (p : Fin 8) (q s : Fin 32), y = ix3 p q s := ⟨y 0, y 1, y 2, eq_ix3 y⟩
  have hf : (p.val * 32 + q.val) * 32 + s.val < 8192 := by omega
  let r : Fin 8192 := ⟨(p.val * 32 + q.val) * 32 + s.val, hf⟩
  have h1 : Ker.gridded (Ker.numbers nr) (ix3 p q s)
      = Ker.numbers nr (ix3 (⟨r.val / 2048, by omega⟩ : Fin 4) (0 : Fin 1) (⟨r.val % 2048, by omega⟩ : Fin 2048)) := by
    refine shapeCast_apply _ _ _ _ ?_
    rw [Shape.rowMajor_val_three, Shape.rowMajor_val_three]
    show (r.val / 2048 * 1 + 0) * 2048 + r.val % 2048 = r.val
    omega
  have h2 : Ref.grid (Ref.idx z e) (ix3 p q s) = Ref.idx z e (ix1 r) := by
    refine shapeCast_apply _ _ _ _ ?_
    rw [Shape.rowMajor_val_three, Shape.rowMajor_val_one]
    rfl
  have h3 : Ker.rowOf (⟨r.val / 2048, by omega⟩ : Fin 4) (⟨r.val % 2048, by omega⟩ : Fin 2048) = r :=
    Fin.ext (by show r.val / 2048 * 2048 + r.val % 2048 = r.val; omega)
  rw [h1, h2, Ref.idx_at e z hx hr r (nr r) (hn r)]
  exact congrArg (fun r => BitVec.ofNat 32 (nr r).val) h3

end Cert.Proof.Eq

end
-- ==== Proof.KerRun.lean ====
module

public import proofs.«01_k».proof.Proof.KerHost
@[expose] public section

/-!
# The run of the kernel's program

The three results are the host's last operations on the three arrays the kernel leaves.
-/

noncomputable section

namespace Cert.Proof.Ker

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- The contents of the buffers when the kernel ends. -/
abbrev left (c : Dev nD) : Valuation τ sig (Elt F) :=
  Pipeline.withArrays (cfgs 0).spec c (V0 m c) fun w => (dats m 0 c).arrAt w (cfgs 0).N

theorem left_entries (c : Dev nD) : left m c (Proc.devRef .tc main_v9_0) = (dats m 0 c).arrAt 4 cfg0.N :=
  Pipeline.withArrays_arr spec0 launch0.win.arr_inj c (V0 m c) (fun w => (dats m 0 c).arrAt w cfg0.N) 4
theorem left_numbers (c : Dev nD) : left m c (Proc.devRef .tc main_v9_1) = (dats m 0 c).arrAt 5 cfg0.N :=
  Pipeline.withArrays_arr spec0 launch0.win.arr_inj c (V0 m c) (fun w => (dats m 0 c).arrAt w cfg0.N) 5
theorem left_added (c : Dev nD) : left m c (Proc.devRef .tc main_v9_2) = (dats m 0 c).arrAt 6 cfg0.N :=
  Pipeline.withArrays_arr spec0 launch0.win.arr_inj c (V0 m c) (fun w => (dats m 0 c).arrAt w cfg0.N) 6

/-- The run: every result from the arrays the kernel leaves, the arguments unchanged. -/
theorem run : θ_run defs (onTc (τ := τ) (main (F := F))) ⟨m, fun _ => 0, ρ⟩ fun r => ∀ c : Dev nD,
    r.2.mem ((c : Thread nD τ).loc main_v11) = back (F := F) ((dats m 0 c).arrAt 4 cfg0.N)
    ∧ r.2.mem ((c : Thread nD τ).loc main_v16) = weighed (F := F) ((dats m 0 c).arrAt 6 cfg0.N)
    ∧ r.2.mem ((c : Thread nD τ).loc main_v17) = gridded ((dats m 0 c).arrAt 5 cfg0.N)
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨?_, ?_, ?_, ?_, ?_⟩) (run_main m ρ)
  · refine ((h c).2 main_v11 (Pipeline.mem_restRefs_of main_v11 (by decide) (by decide))).trans ?_
    exact (tail_back (left m c)).trans (congrArg (back (F := F)) (left_entries m c))
  · refine ((h c).2 main_v16 (Pipeline.mem_restRefs_of main_v16 (by decide) (by decide))).trans ?_
    exact (tail_weighed (left m c)).trans (congrArg (weighed (F := F)) (left_added m c))
  · refine ((h c).2 main_v17 (Pipeline.mem_restRefs_of main_v17 (by decide) (by decide))).trans ?_
    exact (tail_gridded (left m c)).trans (congrArg gridded (left_numbers m c))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.Proof.Ker

end
-- ==== Proof.Results.lean ====
module

public import proofs.«01_k».proof.Proof.Equation
public import proofs.«01_k».proof.Proof.KerRun

@[expose] public section

/-!
# The results of the kernel, as the reference's

For real arguments the host's operations on the three arrays the kernel leaves are the reference's three results.
-/

noncomputable section

namespace Cert.Proof.Results

open Idealize.ShloMosaic Idealize.ShloMosaic.TcCoe Cert.KernelIdeal Cert.KernelIdeal.Gen

variable (z : FVec Ideal S8x256x32x32 .f32) (e : FVec Ideal S1024x256 .f32)

/-- Every entry of the pixels as rows is an element of `z`. -/
theorem flat_entry (i : S8192x256.Idx) : ∃ j, Ref.flat z i = z j := ⟨_, rfl⟩

/-- The rows of a real `z` are real. -/
theorem flat_real (hz : ∀ i, z i = ((EReal.toReal (z i) : ℝ) : EReal)) (i : S8192x256.Idx) :
    Ref.flat z i = ((EReal.toReal (Ref.flat z i) : ℝ) : EReal) := by
  obtain ⟨j, hj⟩ := flat_entry z i
  rw [hj]
  exact hz j

/-- Each pixel has a nearest codebook entry, the first of them if there are several. -/
theorem nearest (xr : Fin 8192 → Fin 256 → ℝ) (er : Fin 1024 → Fin 256 → ℝ) :
    ∃ nr : Fin 8192 → Fin 1024,
      ∀ r, First (fun j => ((Real.sqrt (sqDist (xr r) (er j)) : ℝ) : EReal)) (nr r) :=
  Classical.skolem.1 fun r =>
    First.exists_of_pos (fun j => ((Real.sqrt (sqDist (xr r) (er j)) : ℝ) : EReal)) (by decide)

/-- On device `c`, whose arguments are the real arrays `z` and `e`: the three results. -/
theorem equal (m : (ℓ : Loc nD τ sig) → Buf (Elt Ideal) ℓ) (c : Dev nD)
    (hz : m ((c : Thread nD τ).loc main_arg0) = z) (he : m ((c : Thread nD τ).loc main_arg1) = e)
    (rz : ∀ i, z i = ((EReal.toReal (z i) : ℝ) : EReal)) (re : ∀ i, e i = ((EReal.toReal (e i) : ℝ) : EReal)) :
    Ker.back (F := Ideal) ((dats m 0 c).arrAt 4 cfg0.N) = Ref.quant (Ref.flat z) (Ref.taken e (Ref.idx z e))
    ∧ Ker.weighed (F := Ideal) ((dats m 0 c).arrAt 6 cfg0.N) = Ref.loss (Ref.flat z) (Ref.taken e (Ref.idx z e))
    ∧ Ker.gridded ((dats m 0 c).arrAt 5 cfg0.N) = Ref.grid (Ref.idx z e) := by
  obtain ⟨xr, hx⟩ : ∃ xr : Fin 8192 → Fin 256 → ℝ, ∀ r k, Ref.flat z (ix2 r k) = ((xr r k : ℝ) : EReal) :=
    ⟨fun r k => EReal.toReal (Ref.flat z (ix2 r k)), fun r k => flat_real z rz (ix2 r k)⟩
  obtain ⟨er, hr⟩ : ∃ er : Fin 1024 → Fin 256 → ℝ, ∀ j k, e (ix2 j k) = ((er j k : ℝ) : EReal) :=
    ⟨fun j k => EReal.toReal (e (ix2 j k)), fun j k => re (ix2 j k)⟩
  obtain ⟨nr, hn⟩ := nearest xr er
  refine ⟨?_, ?_, ?_⟩
  · exact (congrArg (Ker.back (F := Ideal)) (Ker.array_entries m c z e hz he xr er hx hr nr hn)).trans
      (Eq.eq_quant z e xr er hx hr nr hn)
  · exact (congrArg (Ker.weighed (F := Ideal)) (Ker.array_added m c z e hz he xr er hx hr nr hn)).trans
      (Eq.eq_loss z e xr er hx hr nr hn)
  · exact (congrArg Ker.gridded (Ker.array_numbers m c z e hz he xr er hx hr nr hn)).trans
      (Eq.eq_grid z e xr er hx hr nr hn)

end Cert.Proof.Results

end
-- ==== Proof.lean ====
/-
The proof of `Cert.Claim`: the kernel and the reference run to the end with their arguments unchanged and every
semaphore at zero, and over the extended reals they end with the same three results.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Finite
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL.Sem

local instance : Cert.Pre_finite.Facts := Finite.facts

/-- From real arguments the kernel and the reference end with equal results: the reference's, as functions of the
kernel's arguments. -/
theorem algebraic : Cert.algebraic_KernelIdeal_ReferenceIdeal_pre_finite
    (hKernelIdeal := Cert.KernelIdeal.Gen.facts) (hReferenceIdeal := Cert.ReferenceIdeal.Gen.facts)
    (hPre_finite := Finite.facts) := by
  intro m g m' g' hp ha
  refine ⟨fun c => Ref.quant (F := Ideal) (Ref.flat (F := Ideal) (m ((c.tc : Thread Cert.KernelIdeal.nD Cert.KernelIdeal.τ).loc Cert.KernelIdeal.main_arg0)))
      (Ref.taken (F := Ideal) (m ((c.tc : Thread Cert.KernelIdeal.nD Cert.KernelIdeal.τ).loc Cert.KernelIdeal.main_arg1))
        (Ref.idx (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))),
    fun c => Ref.loss (F := Ideal) (Ref.flat (F := Ideal) (m ((c.tc : Thread Cert.KernelIdeal.nD Cert.KernelIdeal.τ).loc Cert.KernelIdeal.main_arg0)))
      (Ref.taken (F := Ideal) (m ((c.tc : Thread Cert.KernelIdeal.nD Cert.KernelIdeal.τ).loc Cert.KernelIdeal.main_arg1))
        (Ref.idx (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))),
    fun c => Ref.grid (Ref.idx (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))), ?_, ?_⟩
  · refine (θ_run _ _ _).mono (fun r h c => ?_) (Ker.run m g)
    obtain ⟨h0, h1, h2, h3, h4⟩ := h c
    obtain ⟨rz, re⟩ := Finite.real _ _ (hp c)
    obtain ⟨e0, e1, e2⟩ := Results.equal _ _ m c rfl rfl rz re
    exact ⟨h0.trans e0, h1.trans e1, h2.trans e2, h3, h4⟩
  · refine (θ_run _ _ _).mono (fun r h c => ?_) (Ref.run m' g')
    obtain ⟨h0, h1, h2, h3, h4⟩ := h c
    obtain ⟨a0, a1⟩ := ha c
    refine ⟨h0.trans ?_, h1.trans ?_, h2.trans ?_, h3, h4⟩
    · rw [a0, a1]
    · rw [a0, a1]
    · rw [a0, a1]

/-- The certificate's claim. -/
theorem claim : Cert.Claim :=
  ⟨Cert.Kernel.Gen.facts, Cert.KernelIdeal.Gen.facts, Cert.ReferenceIdeal.Gen.facts, Finite.facts,
    fun m ρ _ => Cert.Kernel.Gen.frame m ρ,
    fun m ρ _ => Cert.KernelIdeal.Gen.frame m ρ,
    fun m ρ _ => Cert.KernelIdeal.Gen.frame m ρ,
    fun m ρ _ => Ref.quiescent m ρ,
    fun m ρ _ => Ref.quiescent m ρ,
    trivial,
    algebraic⟩

end Cert.Proof

end
